-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def preserves_Kernel_KernelIdeal : Prop :=
  IdealRules.named_const.Statement Cert.KernelIdeal.κ "inv_count" .f32 0x36579409#32 ((311297⁻¹ : ℝ) : EReal)

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S327680 : Shape := ⟨1, ![327680]⟩
abbrev S16384 : Shape := ⟨1, ![16384]⟩
abbrev S100000x128 : Shape := ⟨2, ![100000, 128]⟩
abbrev S32x128 : Shape := ⟨2, ![32, 128]⟩
abbrev S32 : Shape := ⟨1, ![32]⟩
abbrev S16x32 : Shape := ⟨2, ![16, 32]⟩
abbrev S16 : Shape := ⟨1, ![16]⟩
abbrev S128x16 : Shape := ⟨2, ![128, 16]⟩
abbrev S128 : Shape := ⟨1, ![128]⟩
abbrev S64x128 : Shape := ⟨2, ![64, 128]⟩
abbrev S64 : Shape := ⟨1, ![64]⟩
abbrev S32x64 : Shape := ⟨2, ![32, 64]⟩
abbrev S100x32 : Shape := ⟨2, ![100, 32]⟩
abbrev S100 : Shape := ⟨1, ![100]⟩
abbrev S_ : Shape := ⟨0, ![]⟩

class Facts : Prop where
  bcast_S_S327680 : S_.BroadcastsInDim S327680 (![] : Fin 0 → Fin S327680.rank)
  reducesTo_S327680_S_d0 : S327680.ReducesTo [0] S_
  h_S_ : 0 < S_.numel
  reducesTo_S16384_S_d0 : S16384.ReducesTo [0] S_

variable [Facts]

def fn {F : FTy → Type} [FloatOps F] (main_arg0 : IVec S327680 32) (main_arg1 : IVec S16384 32) (main_arg2 : FVec F S100000x128 .f32) (main_arg3 : FVec F S32x128 .f32) (main_arg4 : FVec F S32 .f32) (main_arg5 : FVec F S16x32 .f32) (main_arg6 : FVec F S16 .f32) (main_arg7 : FVec F S128x16 .f32) (main_arg8 : FVec F S128 .f32) (main_arg9 : FVec F S64x128 .f32) (main_arg10 : FVec F S64 .f32) (main_arg11 : FVec F S32x64 .f32) (main_arg12 : FVec F S32 .f32) (main_arg13 : FVec F S100x32 .f32) (main_arg14 : FVec F S100 .f32) : IVec S_ 1 :=
  let main_c : IVec S_ 32 := constantI S_ 32 0#32
  let main_v0 : IVec S327680 32 := broadcastInDim S327680 ![] bcast_S_S327680 main_c
  let main_v1 : IVec S327680 1 := cmpi .sge main_arg0 main_v0
  let main_c_0 : IVec S_ 1 := constantI S_ 1 1#1
  let main_v2 : IVec S_ 1 := (fun x v => Host.reduce IntOp.andi x v reducesTo_S327680_S_d0 h_S_) main_v1 main_c_0
  let main_c_1 : IVec S_ 32 := constantI S_ 32 100000#32
  let main_v3 : IVec S327680 32 := broadcastInDim S327680 ![] bcast_S_S327680 main_c_1
  let main_v4 : IVec S327680 1 := cmpi .slt main_arg0 main_v3
  let main_c_2 : IVec S_ 1 := constantI S_ 1 1#1
  let main_v5 : IVec S_ 1 := (fun x v => Host.reduce IntOp.andi x v reducesTo_S327680_S_d0 h_S_) main_v4 main_c_2
  let main_v6 : IVec S_ 1 := andi main_v2 main_v5
  let main_v7 : IVec S16384 32 := iotaInDim S16384 32 0
  let main_v8 : IVec S16384 1 := cmpi .eq main_arg1 main_v7
  let main_c_3 : IVec S_ 1 := constantI S_ 1 1#1
  let main_v9 : IVec S_ 1 := (fun x v => Host.reduce IntOp.andi x v reducesTo_S16384_S_d0 h_S_) main_v8 main_c_3
  let main_v10 : IVec S_ 1 := andi main_v6 main_v9
  main_v10
-- ==== Kernel.lean ====
abbrev S327680 : Shape := ⟨1, ![327680]⟩
abbrev S16384 : Shape := ⟨1, ![16384]⟩
abbrev S100000x128 : Shape := ⟨2, ![100000, 128]⟩
abbrev S32x128 : Shape := ⟨2, ![32, 128]⟩
abbrev S32 : Shape := ⟨1, ![32]⟩
abbrev S16x32 : Shape := ⟨2, ![16, 32]⟩
abbrev S16 : Shape := ⟨1, ![16]⟩
abbrev S128x16 : Shape := ⟨2, ![128, 16]⟩
abbrev S128 : Shape := ⟨1, ![128]⟩
abbrev S64x128 : Shape := ⟨2, ![64, 128]⟩
abbrev S64 : Shape := ⟨1, ![64]⟩
abbrev S32x64 : Shape := ⟨2, ![32, 64]⟩
abbrev S100x32 : Shape := ⟨2, ![100, 32]⟩
abbrev S100 : Shape := ⟨1, ![100]⟩
abbrev S16384x128 : Shape := ⟨2, ![16384, 128]⟩
abbrev S32x100000 : Shape := ⟨2, ![32, 100000]⟩
abbrev S128x128 : Shape := ⟨2, ![128, 128]⟩
abbrev S9728 : Shape := ⟨1, ![9728]⟩
abbrev S100000 : Shape := ⟨1, ![100000]⟩
abbrev S_ : Shape := ⟨0, ![]⟩
abbrev S1x100000 : Shape := ⟨2, ![1, 100000]⟩
abbrev S32x10x1x10000 : Shape := ⟨4, ![32, 10, 1, 10000]⟩
abbrev S1x128 : Shape := ⟨2, ![1, 128]⟩
abbrev S32x1x1x10000 : Shape := ⟨4, ![32, 1, 1, 10000]⟩
abbrev S10000x128 : Shape := ⟨2, ![10000, 128]⟩
abbrev S32x10000 : Shape := ⟨2, ![32, 10000]⟩
abbrev S1x32 : Shape := ⟨2, ![1, 32]⟩
abbrev S1x16 : Shape := ⟨2, ![1, 16]⟩
abbrev S1x64 : Shape := ⟨2, ![1, 64]⟩
abbrev S1x100 : Shape := ⟨2, ![1, 100]⟩
abbrev S16384x100 : Shape := ⟨2, ![16384, 100]⟩
abbrev S1024x128 : Shape := ⟨2, ![1024, 128]⟩
abbrev S1024x100 : Shape := ⟨2, ![1024, 100]⟩
abbrev S1024x1 : Shape := ⟨2, ![1024, 1]⟩
abbrev S1024x32 : Shape := ⟨2, ![1024, 32]⟩
abbrev S1024x16 : Shape := ⟨2, ![1024, 16]⟩
abbrev S1024x64 : Shape := ⟨2, ![1024, 64]⟩
abbrev S1024 : Shape := ⟨1, ![1024]⟩

abbrev nBuf : Table → Nat
  | .hbm => 27
  | .local .tc .vmem => 24
  | .local .scVector .vmem => 4
  | _ => 0

abbrev bufTy : (tb : Table) → Fin (nBuf tb) → BufTy
  | .hbm, ⟨0, _⟩ => ⟨S327680, .i32⟩
  | .hbm, ⟨1, _⟩ => ⟨S16384, .i32⟩
  | .hbm, ⟨2, _⟩ => ⟨S100000x128, .f32⟩
  | .hbm, ⟨3, _⟩ => ⟨S32x128, .f32⟩
  | .hbm, ⟨4, _⟩ => ⟨S32, .f32⟩
  | .hbm, ⟨5, _⟩ => ⟨S16x32, .f32⟩
  | .hbm, ⟨6, _⟩ => ⟨S16, .f32⟩
  | .hbm, ⟨7, _⟩ => ⟨S128x16, .f32⟩
  | .hbm, ⟨8, _⟩ => ⟨S128, .f32⟩
  | .hbm, ⟨9, _⟩ => ⟨S64x128, .f32⟩
  | .hbm, ⟨10, _⟩ => ⟨S64, .f32⟩
  | .hbm, ⟨11, _⟩ => ⟨S32x64, .f32⟩
  | .hbm, ⟨12, _⟩ => ⟨S32, .f32⟩
  | .hbm, ⟨13, _⟩ => ⟨S100x32, .f32⟩
  | .hbm, ⟨14, _⟩ => ⟨S100, .f32⟩
  | .hbm, ⟨15, _⟩ => ⟨S16384x128, .f32⟩
  | .hbm, ⟨16, _⟩ => ⟨S32x100000, .f32⟩
  | .hbm, ⟨17, _⟩ => ⟨S32x10x1x10000, .f32⟩
  | .hbm, ⟨18, _⟩ => ⟨S1x128, .f32⟩
  | .hbm, ⟨19, _⟩ => ⟨S1x128, .f32⟩
  | .hbm, ⟨20, _⟩ => ⟨S1x32, .f32⟩
  | .hbm, ⟨21, _⟩ => ⟨S1x16, .f32⟩
  | .hbm, ⟨22, _⟩ => ⟨S1x128, .f32⟩
  | .hbm, ⟨23, _⟩ => ⟨S1x64, .f32⟩
  | .hbm, ⟨24, _⟩ => ⟨S1x32, .f32⟩
  | .hbm, ⟨25, _⟩ => ⟨S1x100, .f32⟩
  | .hbm, ⟨26, _⟩ => ⟨S16384x100, .f32⟩
  | .local .tc .vmem, ⟨0, _⟩ => ⟨S32x1x1x10000, .f32⟩
  | .local .tc .vmem, ⟨1, _⟩ => ⟨S32x1x1x10000, .f32⟩
  | .local .tc .vmem, ⟨2, _⟩ => ⟨S10000x128, .f32⟩
  | .local .tc .vmem, ⟨3, _⟩ => ⟨S10000x128, .f32⟩
  | .local .tc .vmem, ⟨4, _⟩ => ⟨S1x128, .f32⟩
  | .local .tc .vmem, ⟨5, _⟩ => ⟨S1x128, .f32⟩
  | .local .tc .vmem, ⟨6, _⟩ => ⟨S32x128, .f32⟩
  | .local .tc .vmem, ⟨7, _⟩ => ⟨S1024x128, .f32⟩
  | .local .tc .vmem, ⟨8, _⟩ => ⟨S1024x128, .f32⟩
  | .local .tc .vmem, ⟨9, _⟩ => ⟨S1x128, .f32⟩
  | .local .tc .vmem, ⟨10, _⟩ => ⟨S32x128, .f32⟩
  | .local .tc .vmem, ⟨11, _⟩ => ⟨S1x32, .f32⟩
  | .local .tc .vmem, ⟨12, _⟩ => ⟨S16x32, .f32⟩
  | .local .tc .vmem, ⟨13, _⟩ => ⟨S1x16, .f32⟩
  | .local .tc .vmem, ⟨14, _⟩ => ⟨S128x16, .f32⟩
  | .local .tc .vmem, ⟨15, _⟩ => ⟨S1x128, .f32⟩
  | .local .tc .vmem, ⟨16, _⟩ => ⟨S64x128, .f32⟩
  | .local .tc .vmem, ⟨17, _⟩ => ⟨S1x64, .f32⟩
  | .local .tc .vmem, ⟨18, _⟩ => ⟨S32x64, .f32⟩
  | .local .tc .vmem, ⟨19, _⟩ => ⟨S1x32, .f32⟩
  | .local .tc .vmem, ⟨20, _⟩ => ⟨S100x32, .f32⟩
  | .local .tc .vmem, ⟨21, _⟩ => ⟨S1x100, .f32⟩
  | .local .tc .vmem, ⟨22, _⟩ => ⟨S1024x100, .f32⟩
  | .local .tc .vmem, ⟨23, _⟩ => ⟨S1024x100, .f32⟩
  | .local .scVector .vmem, ⟨0, _⟩ => ⟨S128, .i32⟩
  | .local .scVector .vmem, ⟨1, _⟩ => ⟨S128x128, .f32⟩
  | .local .scVector .vmem, ⟨2, _⟩ => ⟨S9728, .i32⟩
  | .local .scVector .vmem, ⟨3, _⟩ => ⟨S100000, .f32⟩
  | _, _ => ⟨S327680, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 34 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTables nBuf rfl bufTy 4 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0_0 : Ref sig .tc := ⟨.hbm, 15, rfl⟩
abbrev main_v0_1 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_arg0_scv : Ref sig .scVector := ⟨.hbm, 0, rfl⟩
abbrev main_arg2_scv : Ref sig .scVector := ⟨.hbm, 2, rfl⟩
abbrev main_v0_0_scv : Ref sig .scVector := ⟨.hbm, 15, rfl⟩
abbrev main_v0_1_scv : Ref sig .scVector := ⟨.hbm, 16, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg3_0 : Ref sig .tc := ⟨.vmem, 5, rfl⟩
abbrev cc1_scratch0 : Ref sig .tc := ⟨.vmem, 6, rfl⟩
abbrev cc2_stg0_0 : Ref sig .tc := ⟨.vmem, 7, rfl⟩
abbrev cc2_stg0_1 : Ref sig .tc := ⟨.vmem, 8, rfl⟩
abbrev cc2_stg1_0 : Ref sig .tc := ⟨.vmem, 9, rfl⟩
abbrev cc2_stg2_0 : Ref sig .tc := ⟨.vmem, 10, rfl⟩
abbrev cc2_stg3_0 : Ref sig .tc := ⟨.vmem, 11, rfl⟩
abbrev cc2_stg4_0 : Ref sig .tc := ⟨.vmem, 12, rfl⟩
abbrev cc2_stg5_0 : Ref sig .tc := ⟨.vmem, 13, rfl⟩
abbrev cc2_stg6_0 : Ref sig .tc := ⟨.vmem, 14, rfl⟩
abbrev cc2_stg7_0 : Ref sig .tc := ⟨.vmem, 15, rfl⟩
abbrev cc2_stg8_0 : Ref sig .tc := ⟨.vmem, 16, rfl⟩
abbrev cc2_stg9_0 : Ref sig .tc := ⟨.vmem, 17, rfl⟩
abbrev cc2_stg10_0 : Ref sig .tc := ⟨.vmem, 18, rfl⟩
abbrev cc2_stg11_0 : Ref sig .tc := ⟨.vmem, 19, rfl⟩
abbrev cc2_stg12_0 : Ref sig .tc := ⟨.vmem, 20, rfl⟩
abbrev cc2_stg13_0 : Ref sig .tc := ⟨.vmem, 21, rfl⟩
abbrev cc2_stg14_0 : Ref sig .tc := ⟨.vmem, 22, rfl⟩
abbrev cc2_stg14_1 : Ref sig .tc := ⟨.vmem, 23, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc2_sem0_0 : DmaSem sig := 17
abbrev cc2_sem0_1 : DmaSem sig := 18
abbrev cc2_sem1_0 : DmaSem sig := 19
abbrev cc2_sem2_0 : DmaSem sig := 20
abbrev cc2_sem3_0 : DmaSem sig := 21
abbrev cc2_sem4_0 : DmaSem sig := 22
abbrev cc2_sem5_0 : DmaSem sig := 23
abbrev cc2_sem6_0 : DmaSem sig := 24
abbrev cc2_sem7_0 : DmaSem sig := 25
abbrev cc2_sem8_0 : DmaSem sig := 26
abbrev cc2_sem9_0 : DmaSem sig := 27
abbrev cc2_sem10_0 : DmaSem sig := 28
abbrev cc2_sem11_0 : DmaSem sig := 29
abbrev cc2_sem12_0 : DmaSem sig := 30
abbrev cc2_sem13_0 : DmaSem sig := 31
abbrev cc2_sem14_0 : DmaSem sig := 32
abbrev cc2_sem14_1 : DmaSem sig := 33
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_0 : BitVec 32 := 0#32
  let c6250_i32 : BitVec 32 := 6250#32
  let v2 : BitVec 32 := Scalar.addi c0_i32_0 c6250_i32
  let c1_i32 : BitVec 32 := 1#32
  ⟨c0_i32_0, v2, c1_i32⟩
def k0_off1 (k0_t1 : Fin k0_t1_loop.trips) : Fin 1 → Nat :=
  let c0_i32_0 : BitVec 32 := 0#32
  let c1_i32 : BitVec 32 := 1#32
  let arg11 : BitVec 32 := Scf.iv c0_i32_0 c1_i32 k0_t1
  let c16_i32 : BitVec 32 := 16#32
  let v24 : BitVec 32 := Scalar.muli arg11 c16_i32
  let v25 : Index := Scalar.indexCast v24
  ![v25.toNat]
def k0_off2 (i : grid0.Coords) : Fin 1 → Nat :=
  let c16384_i32 : BitVec 32 := 16384#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c9728_i32 : BitVec 32 := 9728#32
  let v3 : BitVec 32 := Scalar.muli v1 c9728_i32
  let v4 : BitVec 32 := Scalar.addi c16384_i32 v3
  ![v4.toNat]
@[reducible] def k0_t2_loop : Scf.Loop 32 :=
  let c0_i32_3 : BitVec 32 := 0#32
  let c608_i32 : BitVec 32 := 608#32
  let v6 : BitVec 32 := Scalar.addi c0_i32_3 c608_i32
  let c1_i32_4 : BitVec 32 := 1#32
  ⟨c0_i32_3, v6, c1_i32_4⟩
def k0_off3 (k0_t2 : Fin k0_t2_loop.trips) : Fin 1 → Nat :=
  let c0_i32_3 : BitVec 32 := 0#32
  let c1_i32_4 : BitVec 32 := 1#32
  let arg11 : BitVec 32 := Scf.iv c0_i32_3 c1_i32_4 k0_t2
  let c16_i32 : BitVec 32 := 16#32
  let v23 : BitVec 32 := Scalar.muli arg11 c16_i32
  let v24 : Index := Scalar.indexCast v23
  ![v24.toNat]

def k0_chk1 (v25 : IVec S16 32) : Prop :=
  (∀ a x, ((![v25] : Fin 1 → IVec S16 32) a x).toNat < S100000.size a)
theorem k0_idx1_inb : ∀ (v25 : IVec S16 32) (k0_hw1 : k0_chk1 v25), ∀ a x, ((![v25] : Fin 1 → IVec S16 32) a x).toNat < S100000.size a := fun v25 k0_hw1 => k0_hw1
def k0_off4 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_26_r1 : BitVec 32 := 0#32
  ![v1.toNat, 0]
def k0_off5 (i : grid0.Coords) (c0_i32_6 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v7 : BitVec 32 := Scalar.muli v1 c512_i32
  let v8 : BitVec 32 := Scalar.addi v7 c0_i32_6
  ![v8.toNat]
def k0_off6 (i : grid0.Coords) (c0_i32_6 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v7 : BitVec 32 := Scalar.muli v1 c512_i32
  let v8 : BitVec 32 := Scalar.addi v7 c0_i32_6
  let c0_i32_26_r3 : BitVec 32 := 0#32
  ![v8.toNat, 0]
abbrev grid1 : Pipeline.Grid := ⟨1, ![10], ![false]⟩

def k1_cond3 (i : grid1.Coords) : BitVec 1 :=
  let arg0 : BitVec 32 := BitVec.ofNat 32 (i 0).val
  let c9_i32 : BitVec 32 := 9#32
  let v11 : BitVec 1 := Scalar.cmpi .eq arg0 c9_i32
  let v12 : BitVec 32 := Scalar.extui v11
  let c0_i32_8 : BitVec 32 := 0#32
  let v13 : BitVec 1 := Scalar.cmpi .ne v12 c0_i32_8
  v13

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S32x1x1x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_13 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_14 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S32x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S16x32 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x16 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128x16 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S64x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x64 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S32x64 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S1x32 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 1 → Memref sig .tc .vmem S100x32 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false]

abbrev stage2_13 : Fin 1 → Memref sig .tc .vmem S1x100 .f32 := fun | 0 => Memref.whole cc2_stg13_0 | ⟨_ + 1, h⟩ => absurd h (Nat.not_lt.2 (Nat.le_add_left _ _))
abbrev sem2_13 : Fin 1 → DmaSem sig := fun | 0 => cc2_sem13_0 | ⟨_ + 1, h⟩ => absurd h (Nat.not_lt.2 (Nat.le_add_left _ _))
abbrev reads2_13 : Fin grid2.rank → Bool := ![false]

abbrev stage2_14 : Fin 2 → Memref sig .tc .vmem S1024x100 .f32 := fun | 0 => Memref.whole cc2_stg14_0 | 1 => Memref.whole cc2_stg14_1 | ⟨_ + 2, h⟩ => absurd h (Nat.not_lt.2 (Nat.le_add_left _ _))
abbrev sem2_14 : Fin 2 → DmaSem sig := fun | 0 => cc2_sem14_0 | 1 => cc2_sem14_1 | ⟨_ + 2, h⟩ => absurd h (Nat.not_lt.2 (Nat.le_add_left _ _))
abbrev reads2_14 : Fin grid2.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "inv_count" => some ((311297⁻¹ : ℝ) : EReal)
  | _ => none
-- ==== ReferenceIdeal.lean ====
abbrev S327680 : Shape := ⟨1, ![327680]⟩
abbrev S16384 : Shape := ⟨1, ![16384]⟩
abbrev S100000x128 : Shape := ⟨2, ![100000, 128]⟩
abbrev S32x128 : Shape := ⟨2, ![32, 128]⟩
abbrev S32 : Shape := ⟨1, ![32]⟩
abbrev S16x32 : Shape := ⟨2, ![16, 32]⟩
abbrev S16 : Shape := ⟨1, ![16]⟩
abbrev S128x16 : Shape := ⟨2, ![128, 16]⟩
abbrev S128 : Shape := ⟨1, ![128]⟩
abbrev S64x128 : Shape := ⟨2, ![64, 128]⟩
abbrev S64 : Shape := ⟨1, ![64]⟩
abbrev S32x64 : Shape := ⟨2, ![32, 64]⟩
abbrev S100x32 : Shape := ⟨2, ![100, 32]⟩
abbrev S100 : Shape := ⟨1, ![100]⟩
abbrev S_ : Shape := ⟨0, ![]⟩
abbrev S327680x1 : Shape := ⟨2, ![327680, 1]⟩
abbrev S1 : Shape := ⟨1, ![1]⟩
abbrev S1x1 : Shape := ⟨2, ![1, 1]⟩
abbrev S327680x128 : Shape := ⟨2, ![327680, 128]⟩
abbrev S16384x1 : Shape := ⟨2, ![16384, 1]⟩
abbrev S16384x128 : Shape := ⟨2, ![16384, 128]⟩
abbrev S128x32 : Shape := ⟨2, ![128, 32]⟩
abbrev S16384x32 : Shape := ⟨2, ![16384, 32]⟩
abbrev S1x32 : Shape := ⟨2, ![1, 32]⟩
abbrev S32x16 : Shape := ⟨2, ![32, 16]⟩
abbrev S16384x16 : Shape := ⟨2, ![16384, 16]⟩
abbrev S1x16 : Shape := ⟨2, ![1, 16]⟩
abbrev S16x128 : Shape := ⟨2, ![16, 128]⟩
abbrev S1x128 : Shape := ⟨2, ![1, 128]⟩
abbrev S128x64 : Shape := ⟨2, ![128, 64]⟩
abbrev S16384x64 : Shape := ⟨2, ![16384, 64]⟩
abbrev S1x64 : Shape := ⟨2, ![1, 64]⟩
abbrev S64x32 : Shape := ⟨2, ![64, 32]⟩
abbrev S32x100 : Shape := ⟨2, ![32, 100]⟩
abbrev S16384x100 : Shape := ⟨2, ![16384, 100]⟩
abbrev S1x100 : Shape := ⟨2, ![1, 100]⟩

abbrev nBuf : Space → Nat
  | .hbm => 132
  | .vmem => 0
  | .smem => 0
  | _ => 0

abbrev hbmTy0_0 (i : Nat) : BufTy := match i % 128 with
  | 0 => ⟨S327680, .i32⟩
  | 1 => ⟨S16384, .i32⟩
  | 2 => ⟨S100000x128, .f32⟩
  | 3 => ⟨S32x128, .f32⟩
  | 4 => ⟨S32, .f32⟩
  | 5 => ⟨S16x32, .f32⟩
  | 6 => ⟨S16, .f32⟩
  | 7 => ⟨S128x16, .f32⟩
  | 8 => ⟨S128, .f32⟩
  | 9 => ⟨S64x128, .f32⟩
  | 10 => ⟨S64, .f32⟩
  | 11 => ⟨S32x64, .f32⟩
  | 12 => ⟨S32, .f32⟩
  | 13 => ⟨S100x32, .f32⟩
  | 14 => ⟨S100, .f32⟩
  | 15 => ⟨S_, .i32⟩
  | 16 => ⟨S327680, .i32⟩
  | 17 => ⟨S327680, .i1⟩
  | 18 => ⟨S_, .i32⟩
  | 19 => ⟨S327680, .i32⟩
  | 20 => ⟨S327680, .i32⟩
  | 21 => ⟨S327680, .i32⟩
  | 22 => ⟨S327680x1, .i32⟩
  | 23 => ⟨S1, .i32⟩
  | 24 => ⟨S_, .i32⟩
  | 25 => ⟨S327680x1, .i32⟩
  | 26 => ⟨S327680x1, .i1⟩
  | 27 => ⟨S1x1, .i32⟩
  | 28 => ⟨S327680x1, .i32⟩
  | 29 => ⟨S327680x1, .i1⟩
  | 30 => ⟨S327680x1, .i1⟩
  | 31 => ⟨S_, .i1⟩
  | 32 => ⟨S327680, .i1⟩
  | 33 => ⟨S327680x128, .f32⟩
  | 34 => ⟨S327680x128, .i1⟩
  | 35 => ⟨S_, .f32⟩
  | 36 => ⟨S327680x128, .f32⟩
  | 37 => ⟨S327680x128, .f32⟩
  | 38 => ⟨S_, .i32⟩
  | 39 => ⟨S327680, .i32⟩
  | 40 => ⟨S_, .i32⟩
  | 41 => ⟨S16384, .i32⟩
  | 42 => ⟨S16384, .i1⟩
  | 43 => ⟨S_, .i32⟩
  | 44 => ⟨S16384, .i32⟩
  | 45 => ⟨S16384, .i32⟩
  | 46 => ⟨S16384, .i32⟩
  | 47 => ⟨S16384x1, .i32⟩
  | 48 => ⟨S_, .i32⟩
  | 49 => ⟨S16384, .i32⟩
  | 50 => ⟨S327680, .i32⟩
  | 51 => ⟨S_, .i32⟩
  | 52 => ⟨S_, .i32⟩
  | 53 => ⟨S327680, .i32⟩
  | 54 => ⟨S_, .i32⟩
  | 55 => ⟨S327680, .i32⟩
  | 56 => ⟨S327680, .i32⟩
  | 57 => ⟨S_, .f32⟩
  | 58 => ⟨S16384x128, .f32⟩
  | 59 => ⟨S327680x1, .i32⟩
  | 60 => ⟨S16384x128, .f32⟩
  | 61 => ⟨S_, .f32⟩
  | 62 => ⟨S327680, .f32⟩
  | 63 => ⟨S_, .f32⟩
  | 64 => ⟨S16384, .f32⟩
  | 65 => ⟨S327680x1, .i32⟩
  | 66 => ⟨S16384, .f32⟩
  | 67 => ⟨S_, .f32⟩
  | 68 => ⟨S16384, .f32⟩
  | 69 => ⟨S16384, .f32⟩
  | 70 => ⟨S16384x1, .f32⟩
  | 71 => ⟨S16384x128, .f32⟩
  | 72 => ⟨S16384x128, .f32⟩
  | 73 => ⟨S128x32, .f32⟩
  | 74 => ⟨S16384x32, .f32⟩
  | 75 => ⟨S1x32, .f32⟩
  | 76 => ⟨S16384x32, .f32⟩
  | 77 => ⟨S16384x32, .f32⟩
  | 78 => ⟨S_, .f32⟩
  | 79 => ⟨S16384x32, .f32⟩
  | 80 => ⟨S16384x32, .f32⟩
  | 81 => ⟨S32x16, .f32⟩
  | 82 => ⟨S16384x16, .f32⟩
  | 83 => ⟨S1x16, .f32⟩
  | 84 => ⟨S16384x16, .f32⟩
  | 85 => ⟨S16384x16, .f32⟩
  | 86 => ⟨S_, .f32⟩
  | 87 => ⟨S16384x16, .f32⟩
  | 88 => ⟨S16384x16, .f32⟩
  | 89 => ⟨S16x128, .f32⟩
  | 90 => ⟨S16384x128, .f32⟩
  | 91 => ⟨S1x128, .f32⟩
  | 92 => ⟨S16384x128, .f32⟩
  | 93 => ⟨S16384x128, .f32⟩
  | 94 => ⟨S_, .f32⟩
  | 95 => ⟨S16384x128, .f32⟩
  | 96 => ⟨S16384x128, .f32⟩
  | 97 => ⟨S128x64, .f32⟩
  | 98 => ⟨S16384x64, .f32⟩
  | 99 => ⟨S1x64, .f32⟩
  | 100 => ⟨S16384x64, .f32⟩
  | 101 => ⟨S16384x64, .f32⟩
  | 102 => ⟨S_, .f32⟩
  | 103 => ⟨S16384x64, .f32⟩
  | 104 => ⟨S16384x64, .f32⟩
  | 105 => ⟨S64x32, .f32⟩
  | 106 => ⟨S16384x32, .f32⟩
  | 107 => ⟨S1x32, .f32⟩
  | 108 => ⟨S16384x32, .f32⟩
  | 109 => ⟨S16384x32, .f32⟩
  | 110 => ⟨S_, .f32⟩
  | 111 => ⟨S16384x32, .f32⟩
  | 112 => ⟨S16384x32, .f32⟩
  | 113 => ⟨S32x100, .f32⟩
  | 114 => ⟨S16384x100, .f32⟩
  | 115 => ⟨S1x100, .f32⟩
  | 116 => ⟨S16384x100, .f32⟩
  | 117 => ⟨S16384x100, .f32⟩
  | 118 => ⟨S_, .f32⟩
  | 119 => ⟨S16384, .f32⟩
  | 120 => ⟨S_, .f32⟩
  | 121 => ⟨S16384, .f32⟩
  | 122 => ⟨S16384, .f32⟩
  | 123 => ⟨S16384x1, .f32⟩
  | 124 => ⟨S16384x100, .f32⟩
  | 125 => ⟨S16384x100, .f32⟩
  | 126 => ⟨S16384x100, .f32⟩
  | 127 => ⟨S_, .f32⟩
  | _ => ⟨S327680, .i32⟩

abbrev hbmTy0_1 (i : Nat) : BufTy := match i % 128 with
  | 0 => ⟨S16384, .f32⟩
  | 1 => ⟨S16384x1, .f32⟩
  | 2 => ⟨S16384x100, .f32⟩
  | 3 => ⟨S16384x100, .f32⟩
  | _ => ⟨S327680, .i32⟩

abbrev hbmTy (i : Nat) : BufTy := match i / 128 with
  | 0 => hbmTy0_0 i
  | 1 => hbmTy0_1 i
  | _ => ⟨S327680, .i32⟩

abbrev bufTy : (tb : Table) → Fin (tcTables nBuf tb) → BufTy
  | .hbm, ⟨i, _⟩ => hbmTy i
  | _, _ => ⟨S327680, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_call0_c : Ref sig .tc := ⟨.hbm, 15, rfl⟩
abbrev main_call0_v0 : Ref sig .tc := ⟨.hbm, 16, rfl⟩
abbrev main_call0_v1 : Ref sig .tc := ⟨.hbm, 17, rfl⟩
abbrev main_call0_c_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_c_1 : Ref sig .tc := ⟨.hbm, 23, rfl⟩
abbrev main_call0_c_2 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_c_3 : Ref sig .tc := ⟨.hbm, 31, rfl⟩
abbrev main_call0_v12 : Ref sig .tc := ⟨.hbm, 32, rfl⟩
abbrev main_call0_v13 : Ref sig .tc := ⟨.hbm, 33, rfl⟩
abbrev main_call0_v14 : Ref sig .tc := ⟨.hbm, 34, rfl⟩
abbrev main_call0_cst : Ref sig .tc := ⟨.hbm, 35, rfl⟩
abbrev main_call0_v15 : Ref sig .tc := ⟨.hbm, 36, rfl⟩
abbrev main_v0 : Ref sig .tc := ⟨.hbm, 37, rfl⟩
abbrev main_c : Ref sig .tc := ⟨.hbm, 38, rfl⟩
abbrev main_v1 : Ref sig .tc := ⟨.hbm, 39, rfl⟩
abbrev main_c_0 : Ref sig .tc := ⟨.hbm, 40, rfl⟩
abbrev main_v2 : Ref sig .tc := ⟨.hbm, 41, rfl⟩
abbrev main_v3 : Ref sig .tc := ⟨.hbm, 42, rfl⟩
abbrev main_c_1 : Ref sig .tc := ⟨.hbm, 43, rfl⟩
abbrev main_v4 : Ref sig .tc := ⟨.hbm, 44, rfl⟩
abbrev main_v5 : Ref sig .tc := ⟨.hbm, 45, rfl⟩
abbrev main_v6 : Ref sig .tc := ⟨.hbm, 46, rfl⟩
abbrev main_v7 : Ref sig .tc := ⟨.hbm, 47, rfl⟩
abbrev main_c_2 : Ref sig .tc := ⟨.hbm, 48, rfl⟩
abbrev main_v8 : Ref sig .tc := ⟨.hbm, 49, rfl⟩
abbrev main_v9 : Ref sig .tc := ⟨.hbm, 50, rfl⟩
abbrev main_call1_call0_c : Ref sig .tc := ⟨.hbm, 51, rfl⟩
abbrev main_call1_call0_v0 : Ref sig .tc := ⟨.hbm, 52, rfl⟩
abbrev main_v10 : Ref sig .tc := ⟨.hbm, 53, rfl⟩
abbrev main_c_3 : Ref sig .tc := ⟨.hbm, 54, rfl⟩
abbrev main_v11 : Ref sig .tc := ⟨.hbm, 55, rfl⟩
abbrev main_v12 : Ref sig .tc := ⟨.hbm, 56, rfl⟩
abbrev main_cst : Ref sig .tc := ⟨.hbm, 57, rfl⟩
abbrev main_v13 : Ref sig .tc := ⟨.hbm, 58, rfl⟩
abbrev main_v14 : Ref sig .tc := ⟨.hbm, 59, rfl⟩
abbrev main_v15 : Ref sig .tc := ⟨.hbm, 60, rfl⟩
abbrev main_cst_4 : Ref sig .tc := ⟨.hbm, 61, rfl⟩
abbrev main_v16 : Ref sig .tc := ⟨.hbm, 62, rfl⟩
abbrev main_cst_5 : Ref sig .tc := ⟨.hbm, 63, rfl⟩
abbrev main_v17 : Ref sig .tc := ⟨.hbm, 64, rfl⟩
abbrev main_v18 : Ref sig .tc := ⟨.hbm, 65, rfl⟩
abbrev main_v19 : Ref sig .tc := ⟨.hbm, 66, rfl⟩
abbrev main_cst_6 : Ref sig .tc := ⟨.hbm, 67, rfl⟩
abbrev main_v20 : Ref sig .tc := ⟨.hbm, 68, rfl⟩
abbrev main_v21 : Ref sig .tc := ⟨.hbm, 69, rfl⟩
abbrev main_v22 : Ref sig .tc := ⟨.hbm, 70, rfl⟩
abbrev main_v23 : Ref sig .tc := ⟨.hbm, 71, rfl⟩
abbrev main_v24 : Ref sig .tc := ⟨.hbm, 72, rfl⟩
abbrev main_v25 : Ref sig .tc := ⟨.hbm, 73, rfl⟩
abbrev main_v26 : Ref sig .tc := ⟨.hbm, 74, rfl⟩
abbrev main_v27 : Ref sig .tc := ⟨.hbm, 75, rfl⟩
abbrev main_v28 : Ref sig .tc := ⟨.hbm, 76, rfl⟩
abbrev main_v29 : Ref sig .tc := ⟨.hbm, 77, rfl⟩
abbrev main_call2_cst : Ref sig .tc := ⟨.hbm, 78, rfl⟩
abbrev main_call2_v0 : Ref sig .tc := ⟨.hbm, 79, rfl⟩
abbrev main_v30 : Ref sig .tc := ⟨.hbm, 80, rfl⟩
abbrev main_v31 : Ref sig .tc := ⟨.hbm, 81, rfl⟩
abbrev main_v32 : Ref sig .tc := ⟨.hbm, 82, rfl⟩
abbrev main_v33 : Ref sig .tc := ⟨.hbm, 83, rfl⟩
abbrev main_v34 : Ref sig .tc := ⟨.hbm, 84, rfl⟩
abbrev main_v35 : Ref sig .tc := ⟨.hbm, 85, rfl⟩
abbrev main_call3_cst : Ref sig .tc := ⟨.hbm, 86, rfl⟩
abbrev main_call3_v0 : Ref sig .tc := ⟨.hbm, 87, rfl⟩
abbrev main_v36 : Ref sig .tc := ⟨.hbm, 88, rfl⟩
abbrev main_v37 : Ref sig .tc := ⟨.hbm, 89, rfl⟩
abbrev main_v38 : Ref sig .tc := ⟨.hbm, 90, rfl⟩
abbrev main_v39 : Ref sig .tc := ⟨.hbm, 91, rfl⟩
abbrev main_v40 : Ref sig .tc := ⟨.hbm, 92, rfl⟩
abbrev main_v41 : Ref sig .tc := ⟨.hbm, 93, rfl⟩
abbrev main_call4_cst : Ref sig .tc := ⟨.hbm, 94, rfl⟩
abbrev main_call4_v0 : Ref sig .tc := ⟨.hbm, 95, rfl⟩
abbrev main_v42 : Ref sig .tc := ⟨.hbm, 96, rfl⟩
abbrev main_v43 : Ref sig .tc := ⟨.hbm, 97, rfl⟩
abbrev main_v44 : Ref sig .tc := ⟨.hbm, 98, rfl⟩
abbrev main_v45 : Ref sig .tc := ⟨.hbm, 99, rfl⟩
abbrev main_v46 : Ref sig .tc := ⟨.hbm, 100, rfl⟩
abbrev main_v47 : Ref sig .tc := ⟨.hbm, 101, rfl⟩
abbrev main_call5_cst : Ref sig .tc := ⟨.hbm, 102, rfl⟩
abbrev main_call5_v0 : Ref sig .tc := ⟨.hbm, 103, rfl⟩
abbrev main_v48 : Ref sig .tc := ⟨.hbm, 104, rfl⟩
abbrev main_v49 : Ref sig .tc := ⟨.hbm, 105, rfl⟩
abbrev main_v50 : Ref sig .tc := ⟨.hbm, 106, rfl⟩
abbrev main_v51 : Ref sig .tc := ⟨.hbm, 107, rfl⟩
abbrev main_v52 : Ref sig .tc := ⟨.hbm, 108, rfl⟩
abbrev main_v53 : Ref sig .tc := ⟨.hbm, 109, rfl⟩
abbrev main_call6_cst : Ref sig .tc := ⟨.hbm, 110, rfl⟩
abbrev main_call6_v0 : Ref sig .tc := ⟨.hbm, 111, rfl⟩
abbrev main_v54 : Ref sig .tc := ⟨.hbm, 112, rfl⟩
abbrev main_v55 : Ref sig .tc := ⟨.hbm, 113, rfl⟩
abbrev main_v56 : Ref sig .tc := ⟨.hbm, 114, rfl⟩
abbrev main_v57 : Ref sig .tc := ⟨.hbm, 115, rfl⟩
abbrev main_v58 : Ref sig .tc := ⟨.hbm, 116, rfl⟩
abbrev main_v59 : Ref sig .tc := ⟨.hbm, 117, rfl⟩
abbrev main_cst_7 : Ref sig .tc := ⟨.hbm, 118, rfl⟩
abbrev main_v60 : Ref sig .tc := ⟨.hbm, 119, rfl⟩
abbrev main_cst_8 : Ref sig .tc := ⟨.hbm, 120, rfl⟩
abbrev main_v61 : Ref sig .tc := ⟨.hbm, 121, rfl⟩
abbrev main_v62 : Ref sig .tc := ⟨.hbm, 122, rfl⟩
abbrev main_v63 : Ref sig .tc := ⟨.hbm, 123, rfl⟩
abbrev main_v64 : Ref sig .tc := ⟨.hbm, 124, rfl⟩
abbrev main_v65 : Ref sig .tc := ⟨.hbm, 125, rfl⟩
abbrev main_v66 : Ref sig .tc := ⟨.hbm, 126, rfl⟩
abbrev main_cst_9 : Ref sig .tc := ⟨.hbm, 127, rfl⟩
abbrev main_v67 : Ref sig .tc := ⟨.hbm, 128, rfl⟩
abbrev main_v68 : Ref sig .tc := ⟨.hbm, 129, rfl⟩
abbrev main_v69 : Ref sig .tc := ⟨.hbm, 130, rfl⟩
abbrev main_v70 : Ref sig .tc := ⟨.hbm, 131, rfl⟩

abbrev nD : Nat := 1
abbrev τ : Topo := Topo.v7x

variable {F : FTy → Type} [FloatOps F]
-- ==== Proof.Pre.lean ====
/-
What the precondition says in plain numbers: every id of `text` is below 100000, and `offsets` counts 0, 1, 2, ….
-/
module

public import proofs.«01_k».proof.Defs
public import proofs.«01_k».proof.Proof.Gen.Pre_in_range
public import Idealize.ShloMosaic.Lib.ReduceAll

@[expose] public section

noncomputable section

namespace Cert.Proof.Pre

open Idealize.ShloMosaic Cert.Pre_in_range

/-- A one-bit "and" that is 1 has both sides 1. -/
theorem andi_one {a b : BitVec 1} (h : IntOp.andi a b = 1#1) : a = 1#1 ∧ b = 1#1 := by
  revert h; revert a b; decide

/-- A word that is at least 0 and less than 100000, read signed, is below 100000 read unsigned. -/
theorem word_lt (v : BitVec 32) (h0 : IntOp.cmpi .sge v 0#32 = 1#1) (h1 : IntOp.cmpi .slt v 100000#32 = 1#1) : v.toNat < 100000 := by
  have ofBool_eq_one (p : Bool) : (BitVec.ofBool p = 1#1) ↔ p = true := by cases p <;> decide
  simp only [IntOp.cmpi, ofBool_eq_one, BitVec.sle_eq_decide, BitVec.slt_eq_decide,
    decide_eq_true_eq, BitVec.toInt_eq_toNat_cond, BitVec.toNat_ofNat, Nat.reducePow, Nat.reduceMod] at h0 h1
  omega

/-- Two words that compare equal are equal. -/
theorem word_eq (v w : BitVec 32) (h : IntOp.cmpi .eq v w = 1#1) : v = w := by
  have ofBool_eq_one (p : Bool) : (BitVec.ofBool p = 1#1) ↔ p = true := by cases p <;> decide
  simpa [IntOp.cmpi, ofBool_eq_one] using h

section

variable {F : FTy → Type} [FloatOps F]
variable (t : IVec S327680 32) (o : IVec S16384 32) (a2 : FVec F S100000x128 .f32) (a3 : FVec F S32x128 .f32) (a4 : FVec F S32 .f32)
  (a5 : FVec F S16x32 .f32) (a6 : FVec F S16 .f32) (a7 : FVec F S128x16 .f32) (a8 : FVec F S128 .f32) (a9 : FVec F S64x128 .f32)
  (a10 : FVec F S64 .f32) (a11 : FVec F S32x64 .f32) (a12 : FVec F S32 .f32) (a13 : FVec F S100x32 .f32) (a14 : FVec F S100 .f32)

/-- Where the precondition holds, every id is below 100000. -/
theorem text_lt (j0 : S_.Idx) (h : fn (F := F) t o a2 a3 a4 a5 a6 a7 a8 a9 a10 a11 a12 a13 a14 j0 = 1#1) (j : S327680.Idx) : (t j).toNat < 100000 := by
  obtain ⟨h, -⟩ := andi_one h
  obtain ⟨h0, h1⟩ := andi_one h
  exact word_lt _ (Host.reduce_andi_all _ _ _ _ j0 h0 j) (Host.reduce_andi_all _ _ _ _ j0 h1 j)

/-- Where the precondition holds, entry `j` of `offsets` is `j`. -/
theorem offsets_eq (j0 : S_.Idx) (h : fn (F := F) t o a2 a3 a4 a5 a6 a7 a8 a9 a10 a11 a12 a13 a14 j0 = 1#1) (j : S16384.Idx) : o j = BitVec.ofNat 32 (j 0).val := by
  obtain ⟨-, h⟩ := andi_one h
  exact word_eq _ _ (Host.reduce_andi_all _ _ _ _ j0 h j)

end

/-- The kernel's precondition: every id is below 100000. -/
theorem kernel_text (m : (ℓ : Loc Cert.Kernel.nD Cert.Kernel.τ Cert.Kernel.sig) → Buf (Elt Bits) ℓ) (h : Cert.Pre_Kernel m)
    (d : Dev Cert.Kernel.nD) (j : S327680.Idx) :
    (m ((d.tc : Thread Cert.Kernel.nD Cert.Kernel.τ).loc Cert.Kernel.main_arg0) j).toNat < 100000 :=
  text_lt (F := Bits) _ _ _ _ _ _ _ _ _ _ _ _ _ _ _ (fun a => a.elim0) (congrFun (h d) _) j

/-- The idealized kernel's precondition: every id is below 100000. -/
theorem ideal_text (m : (ℓ : Loc Cert.KernelIdeal.nD Cert.KernelIdeal.τ Cert.KernelIdeal.sig) → Buf (Elt Ideal) ℓ) (h : Cert.Pre_KernelIdeal m)
    (d : Dev Cert.KernelIdeal.nD) (j : S327680.Idx) :
    (m ((d.tc : Thread Cert.KernelIdeal.nD Cert.KernelIdeal.τ).loc Cert.KernelIdeal.main_arg0) j).toNat < 100000 :=
  text_lt (F := Ideal) _ _ _ _ _ _ _ _ _ _ _ _ _ _ _ (fun a => a.elim0) (congrFun (h d) _) j

/-- The idealized kernel's precondition: entry `j` of `offsets` is `j`. -/
theorem ideal_offsets (m : (ℓ : Loc Cert.KernelIdeal.nD Cert.KernelIdeal.τ Cert.KernelIdeal.sig) → Buf (Elt Ideal) ℓ) (h : Cert.Pre_KernelIdeal m)
    (d : Dev Cert.KernelIdeal.nD) (j : S16384.Idx) :
    m ((d.tc : Thread Cert.KernelIdeal.nD Cert.KernelIdeal.τ).loc Cert.KernelIdeal.main_arg1) j = BitVec.ofNat 32 (j 0).val :=
  offsets_eq (F := Ideal) _ _ _ _ _ _ _ _ _ _ _ _ _ _ _ (fun a => a.elim0) (congrFun (h d) _) j

end Cert.Proof.Pre

end
-- ==== Proof.IdealRun.Setup.lean ====
/-
  What the proof of the program's run is stated over: the launch (its configuration, its ghost state, its buffers by
  name), and what the SparseCore call computes as plain functions of the token list and the embedding table: the rows it
  gathers and the histograms it counts.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Regions
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof.IdealRun

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The launch -/

section Launch

variable [FloatOps F] [Named F]

abbrev ΛP : Labels := Pipeline.Sig Λ₀ (Fin 2) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

end Launch

/-- The ghost state: the handshakes' rounds, the two pipelines' rounds, the transfers' counters. -/
abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
abbrev EP : Emb UP (MT nD τ sig (HIx 1) (Elt F) ℕ UU ℕ) := (Emb.inl : Emb UP (UP × Counters)).trans embR

/-! ## The buffers of the SparseCore call -/

abbrev tLoc (d : Dev nD) : Loc nD τ sig := (SparseCore.T d).loc main_arg0
abbrev eLoc (d : Dev nD) : Loc nD τ sig := (SparseCore.T d).loc main_arg2
abbrev bLoc (d : Dev nD) : Loc nD τ sig := (SparseCore.T d).loc main_v0_0
abbrev hLoc (d : Dev nD) : Loc nD τ sig := (SparseCore.T d).loc main_v0_1

/-! ## What the SparseCore call computes -/

/-- The element at position `n` of the token list. -/
def tokIx (n : ℕ) : S327680.Idx := fun | 0 => ⟨n % 327680, Nat.mod_lt _ (by decide)⟩
/-- Row `v`, column `j` of the embedding table. -/
def embIx (v : ℕ) (j : Fin 128) : S100000x128.Idx := fun | 0 => ⟨v % 100000, Nat.mod_lt _ (by decide)⟩ | 1 => j

/-- The gathered rows: row `b` is the embedding of token `b`. -/
def baseF (txt : S327680.Idx → BitVec 32) (e : S100000x128.Idx → F .f32) : S16384x128.Idx → F .f32 :=
  fun x => e (embIx (txt (tokIx (x 0).val)).toNat (x 1))

/-- The 9728 tokens worker `w` counts. -/
def lst (txt : S327680.Idx → BitVec 32) (w : ℕ) : S9728.Idx → BitVec 32 := fun k => txt (tokIx (9728 * w + 16384 + (k 0).val))
/-- The sixteen of them that trip `n` counts. -/
def chunk (l : S9728.Idx → BitVec 32) (n : ℕ) : IVec S16 32 := fun x => l fun | 0 => ⟨(16 * n + (x 0).val) % 9728, Nat.mod_lt _ (by decide)⟩

section Counts

variable [FloatOps F] [Named F]

/-- A worker's counts before trip `n`: zeros, then one scatter-add of ones at each trip's sixteen tokens. -/
def bins (l : S9728.Idx → BitVec 32) : ℕ → Vec F S100000 .f32
  | 0 => fun _ => k0_pay1 (F := F) fun | 0 => ⟨0, by decide⟩
  | n + 1 => open Classical in if h : k0_chk1 (chunk l n) then
      storeIdx (bins l n) ![chunk l n] (k0_pay2 (F := F)) (fun _ => 1#1) true (k0_idx1_inb (chunk l n) h)
    else bins l n

/-- Every worker's counts, a row each. -/
def histF (txt : S327680.Idx → BitVec 32) : S32x100000.Idx → F .f32 :=
  fun x => bins (F := F) (lst txt (x 0).val) 608 fun | 0 => x 1

end Counts

/-! ## Thirty-two shares of one buffer -/

/-- Share `i` of the `n + 1` a share is cut into: each but the last the left half of what the ones before it left. -/
def cut : (n : ℕ) → PosShare TreeShare → Fin (n + 1) → PosShare TreeShare
  | 0, q => fun _ => q
  | n + 1, q => Fin.cases q.left (cut n q.right)

/-- A buffer held at a share is the buffer held at each of the share's cuts. -/
theorem pointsTo_cut {ℓ : Loc nD τ sig} (I : Finset (Idx ℓ)) (f : Buf (Elt F) ℓ) :
    ∀ (n : ℕ) (q : PosShare TreeShare), (ℓ ↦[I]{q} f : sProp 𝕄) = bigSep Finset.univ fun i : Fin (n + 1) => ℓ ↦[I]{cut n q i} f
  | 0, q => (bigSep_univ_of_subsingleton (0 : Fin 1) (Φ := fun i : Fin 1 => (ℓ ↦[I]{cut 0 q i} f : sProp 𝕄))).symm
  | n + 1, q => by
    rw [Fin.univ_succ, Finset.cons_eq_insert, bigSep_insert (by simp [Fin.succ_ne_zero]), bigSep_map,
      BI.Entails.antisymm (pointsTo_share (PosShare.mem_left_op_right q)).1 (pointsTo_share (PosShare.mem_left_op_right q)).2,
      pointsTo_cut I f n q.right]
    rfl

end Cert.Proof.IdealRun

end
-- ==== Proof.IdealRun.Body1.lean ====
/-
  One grid point of the histogram-times-table sum: what the body leaves in the accumulator and in the result's buffer at
  the first point, at the points between and at the last.
-/
module

public import proofs.«01_k».proof.Proof.IdealRun.Setup
public import Idealize.ShloMosaic.Lib.Pipeline.FrameTail
public import Idealize.ShloMosaic.Lib.Pipeline.Value

@[expose] public section

noncomputable section

namespace Cert.Proof.IdealRun

open Cert.KernelIdeal Cert.KernelIdeal.Gen

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ

variable [FloatOps F] [Named F]

/-- The body's test for the first point. -/
abbrev isFirst (i : grid1.Coords) : Prop := Scalar.cmpi .ne (Scalar.extui (Scalar.cmpi .eq (BitVec.ofNat 32 (i 0).val) 0#32) : BitVec 32) 0#32 = 1#1
/-- The body's test for a later point. -/
abbrev isLater (i : grid1.Coords) : Prop := Scalar.cmpi .ne (Scalar.extui (Scalar.cmpi .sgt (BitVec.ofNat 32 (i 0).val) 0#32) : BitVec 32) 0#32 = 1#1

theorem zero2 : (![0, 0] : Fin 2 → Nat) = fun _ => 0 := funext fun a => by fin_cases a <;> rfl
theorem zero4 : (![0, 0, 0, 0] : Fin 4 → Nat) = fun _ => 0 := funext fun a => by fin_cases a <;> rfl

section Whole

variable {κ : Kind} {sp : Space} {S : Shape} {e : EltTy} (v : View sig κ sp S e) (f : v.ty.Contents (Elt F)) {off : Fin S.rank → Nat}
  (h : off = fun _ => 0) (inb : ∀ a, off a + S.size a ≤ S.size a)
include h

/-- A load of the whole view reads what the view reads. -/
theorem readAt_all : v.readAt (Elt F) (Rect.unit off S.size inb).toLoadRect f = v.read (Elt F) f := by
  rw [View.readAt_eq_ld, View.ld_unit_zero h]

/-- A store of the whole view leaves its payload. -/
theorem read_store_all (w : Vec F S e) : v.read (Elt F) (v.writes (Elt F) f [⟨Rect.unit off S.size inb, w⟩]) = w := by
  rw [View.read_writes_eq_canon, View.canon_unit_zero h]
  exact fun y => ⟨_, List.mem_singleton_self _, View.mem_set_unit_zero h inb y⟩

end Whole

section Run

variable (c : Dev nD) (i : grid1.Coords)
  (M1 : Memref sig .tc .vmem S32x1x1x10000 .f32) (h1 : M1.IsWhole) (M2 : Memref sig .tc .vmem S10000x128 .f32) (h2 : M2.IsWhole)
  (M3 : Memref sig .tc .vmem S1x128 .f32) (h3 : M3.IsWhole) (M4 : Memref sig .tc .vmem S1x128 .f32) (h4 : M4.IsWhole)
  (M5 : Memref sig .tc .vmem S32x128 .f32) (h5 : M5.IsWhole)
  (x1 : Vec F S32x1x1x10000 .f32) (x2 : Vec F S10000x128 .f32) (x3 : Vec F S1x128 .f32) (x4 : Vec F S1x128 .f32) (x5 : Vec F S32x128 .f32)

/-- At the first point the accumulator is set to the block's product. -/
theorem body1_first (hA : isFirst i) (hB : ¬isLater i) (hC : ¬(k1_cond3 i = 1#1)) (Q : PUnit → sProp 𝕄) :
    iprop(owns (c : Thread nD τ) M1 fullShare x1 ∗ owns (c : Thread nD τ) M2 fullShare x2 ∗ owns (c : Thread nD τ) M5 fullShare x5
        ∗ ((owns (c : Thread nD τ) M1 fullShare x1 ∗ owns (c : Thread nD τ) M2 fullShare x2 ∗ owns (c : Thread nD τ) M5 fullShare (k1_pay2 x1 x2)) -∗ Q ⟨⟩))
      ⊢ wp frame (wpE (defs₀ (F := F)) 𝒱₀ (c : Thread nD τ) none) Set.univ (cc1__bigsum_body i M1 h1 M2 h2 M3 h3 M4 h4 M5 h5) Q := by
  rw [cc1__bigsum_body_eq_skeleton]
  unfold owns
  iintro ⟨⟨%f1, %e1, H1⟩, ⟨%f2, %e2, H2⟩, ⟨%f5, %e5, H5⟩, Hk⟩
  unfold cc1__bigsum_body_skel
  sl_exec
  rw [wp_ret]; imodintro
  iapply Hk
  isplitl [H1]
  · iexists f1; isplitr
    · ipureintro; exact e1
    · iexact H1
  isplitl [H2]
  · iexists f2; isplitr
    · ipureintro; exact e2
    · iexact H2
  iexists _; isplitr [H5]
  rotate_left
  · iexact H5
  · ipureintro
    rw [read_store_all _ _ zero2, readAt_all _ _ zero4, readAt_all _ _ zero2, e1, e2]

/-- At a point between, the accumulator gains the block's product. -/
theorem body1_mid (hA : ¬isFirst i) (hB : isLater i) (hC : ¬(k1_cond3 i = 1#1)) (Q : PUnit → sProp 𝕄) :
    iprop(owns (c : Thread nD τ) M1 fullShare x1 ∗ owns (c : Thread nD τ) M2 fullShare x2 ∗ owns (c : Thread nD τ) M5 fullShare x5
        ∗ ((owns (c : Thread nD τ) M1 fullShare x1 ∗ owns (c : Thread nD τ) M2 fullShare x2 ∗ owns (c : Thread nD τ) M5 fullShare (k1_pay3 x1 x2 x5)) -∗ Q ⟨⟩))
      ⊢ wp frame (wpE (defs₀ (F := F)) 𝒱₀ (c : Thread nD τ) none) Set.univ (cc1__bigsum_body i M1 h1 M2 h2 M3 h3 M4 h4 M5 h5) Q := by
  rw [cc1__bigsum_body_eq_skeleton]
  unfold owns
  iintro ⟨⟨%f1, %e1, H1⟩, ⟨%f2, %e2, H2⟩, ⟨%f5, %e5, H5⟩, Hk⟩
  unfold cc1__bigsum_body_skel
  sl_exec
  rw [wp_ret]; imodintro
  iapply Hk
  isplitl [H1]
  · iexists f1; isplitr
    · ipureintro; exact e1
    · iexact H1
  isplitl [H2]
  · iexists f2; isplitr
    · ipureintro; exact e2
    · iexact H2
  iexists _; isplitr [H5]
  rotate_left
  · iexact H5
  · ipureintro
    rw [read_store_all _ _ zero2, readAt_all _ _ zero4, readAt_all _ _ zero2, readAt_all _ _ zero2, e1, e2, e5]

/-- At the last point the accumulator gains the block's product, and the result is its column sums, the row of the
    first text and the scale. -/
theorem body1_last (hA : ¬isFirst i) (hB : isLater i) (hC : k1_cond3 i = 1#1) (Q : PUnit → sProp 𝕄) :
    iprop(owns (c : Thread nD τ) M1 fullShare x1 ∗ owns (c : Thread nD τ) M2 fullShare x2 ∗ owns (c : Thread nD τ) M3 fullShare x3
        ∗ owns (c : Thread nD τ) M4 fullShare x4 ∗ owns (c : Thread nD τ) M5 fullShare x5
        ∗ ((owns (c : Thread nD τ) M1 fullShare x1 ∗ owns (c : Thread nD τ) M2 fullShare x2 ∗ owns (c : Thread nD τ) M3 fullShare x3
          ∗ owns (c : Thread nD τ) M4 fullShare (k1_pay4 (k1_pay3 x1 x2 x5) x3) ∗ owns (c : Thread nD τ) M5 fullShare (k1_pay3 x1 x2 x5)) -∗ Q ⟨⟩))
      ⊢ wp frame (wpE (defs₀ (F := F)) 𝒱₀ (c : Thread nD τ) none) Set.univ (cc1__bigsum_body i M1 h1 M2 h2 M3 h3 M4 h4 M5 h5) Q := by
  rw [cc1__bigsum_body_eq_skeleton]
  unfold owns
  iintro ⟨⟨%f1, %e1, H1⟩, ⟨%f2, %e2, H2⟩, ⟨%f3, %e3, H3⟩, ⟨%f4, %e4, H4⟩, ⟨%f5, %e5, H5⟩, Hk⟩
  unfold cc1__bigsum_body_skel
  sl_exec
  rw [wp_ret]; imodintro
  iapply Hk
  isplitl [H1]
  · iexists f1; isplitr
    · ipureintro; exact e1
    · iexact H1
  isplitl [H2]
  · iexists f2; isplitr
    · ipureintro; exact e2
    · iexact H2
  isplitl [H3]
  · iexists f3; isplitr
    · ipureintro; exact e3
    · iexact H3
  isplitl [H4]
  · iexists _; isplitr [H4]
    rotate_left
    · iexact H4
    · ipureintro
      sl_unfold_words
      rw [read_store_all _ _ zero2, View.readCov_unit_zero _ zero2]
      rw [readAt_all M1.view f1 zero4, readAt_all M2.view f2 zero2, readAt_all M3.view f3 zero2, readAt_all M5.view f5 zero2, e1, e2, e3, e5]
  iexists _; isplitr [H5]
  rotate_left
  · iexact H5
  · ipureintro
    sl_unfold_words
    rw [read_store_all _ _ zero2, readAt_all _ _ zero4, readAt_all _ _ zero2, readAt_all _ _ zero2, e1, e2, e5]

end Run

end Cert.Proof.IdealRun

end
-- ==== Proof.IdealRun.Region1.lean ====
/-
  The histogram-times-table sum as a pipeline: what each of its windows holds at each grid point, and that every point
  leaves it so.
-/
module

public import proofs.«01_k».proof.Proof.IdealRun.Body1

@[expose] public section

noncomputable section

namespace Cert.Proof.IdealRun

open Cert.KernelIdeal Cert.KernelIdeal.Gen

open Idealize.ShloMosaic
open Idealize.ShloMosaic.TcCoe
open Idealize.ShloMosaic.SparseCore.Cfg (HIx)
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ

variable [FloatOps F] [Named F]

/-! ## The blocks -/

/-- Block `t` of every worker's counts, read from the counts cut into ten blocks. -/
abbrev hBlk (X : S32x10x1x10000.Idx → F .f32) (t : Fin cfg1.N) : Vec F S32x1x1x10000 .f32 := ((cfg1.win 0).blk t).view.read (Elt F) X
/-- Block `t` of the embedding table's rows. -/
abbrev eBlk (X : S100000x128.Idx → F .f32) (t : Fin cfg1.N) : Vec F S10000x128 .f32 := ((cfg1.win 1).blk t).view.read (Elt F) X
/-- The one row. -/
abbrev rBlk (X : S1x128.Idx → F .f32) (t : Fin cfg1.N) : Vec F S1x128 .f32 := ((cfg1.win 2).blk t).view.read (Elt F) X

/-- The grid point numbered `n` modulo ten. -/
def pt (n : ℕ) : Fin cfg1.N := ⟨n % 10, Nat.mod_lt _ (by decide)⟩

/-- The accumulator after point `n`. -/
def acc (X : S32x10x1x10000.Idx → F .f32) (Y : S100000x128.Idx → F .f32) : ℕ → Vec F S32x128 .f32
  | 0 => k1_pay2 (hBlk X (pt 0)) (eBlk Y (pt 0))
  | n + 1 => k1_pay3 (hBlk X (pt (n + 1))) (eBlk Y (pt (n + 1))) (acc X Y n)

theorem pt_val (t : Fin cfg1.N) : pt t.val = t := Fin.ext (Nat.mod_eq_of_lt t.isLt)

/-! ## The conditions by point -/

theorem isFirst_iff : ∀ t : Fin grid1.N, isFirst (grid1.coords t) ↔ t.val = 0 := by decide
theorem isLater_iff : ∀ t : Fin grid1.N, isLater (grid1.coords t) ↔ t.val ≠ 0 := by decide
theorem isLast_iff : ∀ t : Fin grid1.N, k1_cond3 (grid1.coords t) = 1#1 ↔ t.val = 9 := by decide

/-! ## The pipeline's data -/

theorem scratch_split (c : Dev nD) : ∃ R : sProp 𝕄,
    (Pipeline.scopedRest (Ix := HIx 1) (Name := ℕ) (U := UU) (Lvl := ℕ) (Val := Elt F) spec1 c : sProp 𝕄)
      = iprop((∃ f : Buf (Elt F) ((c : Thread nD τ).loc cc1_scratch0), ((c : Thread nD τ).loc cc1_scratch0) ↦{fullShare} f) ∗ R) :=
  ⟨_, scopedRest1_eq c⟩
/-- The scoped buffers that are neither a staging buffer nor the accumulator. -/
def rest1 (c : Dev nD) : sProp 𝕄 := (scratch_split (F := F) c).choose
theorem rest1_eq (c : Dev nD) :
    (Pipeline.scopedRest (Ix := HIx 1) (Name := ℕ) (U := UU) (Lvl := ℕ) (Val := Elt F) spec1 c : sProp 𝕄)
      = iprop((∃ f : Buf (Elt F) ((c : Thread nD τ).loc cc1_scratch0), ((c : Thread nD τ).loc cc1_scratch0) ↦{fullShare} f) ∗ rest1 c) :=
  (scratch_split (F := F) c).choose_spec

variable (V : Dev nD → Valuation τ sig (Elt F))

/-- The arrays the pipeline reads, at the contents it is entered with. -/
abbrev inH (c : Dev nD) : S32x10x1x10000.Idx → F .f32 := V c (Proc.devRef .tc main_v1)
abbrev inE (c : Dev nD) : S100000x128.Idx → F .f32 := V c (Proc.devRef .tc main_arg2)
abbrev inR (c : Dev nD) : S1x128.Idx → F .f32 := V c (Proc.devRef .tc main_v2)

/-- The pairs the core may have waited at: those at or below level eight. -/
def waited (c : Dev nD) : Set (SemLoc sig × HIx 1) := {p | (K (F := F)).lev ((c : Thread nD τ), p.1) p.2 ≤ 8}

/-- The invariant between points: after point `t - 1` the accumulator holds the sum up to it. -/
def inv1 (c : Dev nD) (n : ℕ) : sProp 𝕄 :=
  iprop((∃ X : Vec F S32x128 .f32, ⌜n ≠ 0 → X = acc (inH V c) (inE V c) (n - 1)⌝ ∗ owns (c : Thread nD τ) (Memref.whole cc1_scratch0) fullShare X) ∗ rest1 c)

/-- The pipeline's data from the contents `V`. -/
def dat1 (c : Dev nD) : Dat τ (Elt F) (HIx 1) ℕ UU ℕ cfg1 c where
  A w := V c (Proc.devRef .tc (Pipeline.arrRef spec1 w))
  after w t := match w with
    | ⟨0, _⟩ => hBlk (inH V c) t
    | ⟨1, _⟩ => eBlk (inE V c) t
    | ⟨2, _⟩ => rBlk (inR V c) t
    | ⟨3, _⟩ => k1_pay4 (acc (inH V c) (inE V c) 9) (rBlk (inR V c) (pt 9))
  Φ t := inv1 V c t.val
  q _ := fullShare
  owed _ := 0
  recorded _ := waited (F := F) c

theorem before1_0 (c : Dev nD) (t : Fin cfg1.N) (d) : (dat1 V c).before 0 t d = hBlk (inH V c) t :=
  (Dat.before_in_eq_fetched (dat1 V c) 0 rfl (fun _ => rfl) (fun _ _ _ => rfl) (fun _ => rfl) t d).trans rfl
theorem before1_1 (c : Dev nD) (t : Fin cfg1.N) (d) : (dat1 V c).before 1 t d = eBlk (inE V c) t :=
  (Dat.before_in_eq_fetched (dat1 V c) 1 rfl (fun _ => rfl) (fun _ _ _ => rfl) (fun _ => rfl) t d).trans rfl
theorem before1_2 (c : Dev nD) (t : Fin cfg1.N) (d) : (dat1 V c).before 2 t d = rBlk (inR V c) t :=
  (Dat.before_in_eq_fetched (dat1 V c) 2 rfl (fun _ => rfl) (fun _ _ _ => rfl) (fun _ => rfl) t d).trans rfl

theorem acc_first (X : S32x10x1x10000.Idx → F .f32) (Y : S100000x128.Idx → F .f32) (t : Fin cfg1.N) (h : t.val = 0) :
    acc X Y t.val = k1_pay2 (hBlk X t) (eBlk Y t) := by
  have e : t = pt 0 := Fin.ext h
  rw [h]; subst e; rfl
theorem acc_later (X : S32x10x1x10000.Idx → F .f32) (Y : S100000x128.Idx → F .f32) (t : Fin cfg1.N) (h : t.val ≠ 0) :
    acc X Y t.val = k1_pay3 (hBlk X t) (eBlk Y t) (acc X Y (t.val - 1)) := by
  obtain ⟨n, hn⟩ := Nat.exists_eq_succ_of_ne_zero h
  have e : t = pt (n + 1) := (pt_val t).symm.trans (congrArg pt hn)
  rw [hn]; subst e; rfl

theorem out_any (c : Dev nD) (t : Fin cfg1.N) : rBlk (inR V c) t = rBlk (inR V c) (pt 9) := by
  rfl

theorem idle_of {i : grid1.Coords} (h : ¬(k1_cond3 i = 1#1)) : idle1 3 i = true := by
  show (!(k1_cond3 i == 1#1)) = true
  rw [Bool.not_eq_true', beq_eq_false_iff_ne]; exact h
theorem live_of {i : grid1.Coords} (h : k1_cond3 i = 1#1) : idle1 3 i = false := by
  show (!(k1_cond3 i == 1#1)) = false
  rw [h]; rfl

/-- Every point takes the invariant and the windows' buffers to what the data says. -/
theorem body_obligation1 (c : Dev nD) : BodyObligation (dat1 V c) (defs₀ (F := F)) 𝒱₀ none Set.univ := fun t => by
  rw [bigSep_W1, bigSep_W1]
  have hN : t.val < 10 := t.isLt
  rw [show (dat1 V c).Φ t.castSucc = inv1 V c t.val from rfl, show (dat1 V c).Φ t.succ = inv1 V c (t.val + 1) from rfl,
    show (dat1 V c).owesAt none t.succ = (dat1 V c).owesAt none t.castSucc from rfl]
  show _ ⊢ wp frame (wpE (defs₀ (F := F)) 𝒱₀ (c : Thread nD τ) none) Set.univ (bodyAt1 t) _
  simp only [before1_0, before1_1, before1_2]
  by_cases h0 : t.val = 0
  · have hA := (isFirst_iff t).mpr h0
    have hB : ¬isLater (grid1.coords t) := fun h => (isLater_iff t).mp h h0
    have hC : ¬(k1_cond3 (grid1.coords t) = 1#1) := fun h => by have := (isLast_iff t).mp h; omega
    have hi : idle1 3 (grid1.coords t) = true := idle_of hC
    have hf : (win1 3).flush t = false := by
      rw [← Bool.not_eq_true]; intro h; have := (flush1_3 t).mp h; omega
    unfold inv1
    rw [hi, hf]
    iintro ⟨⟨⟨%X, -, Hs⟩, Hr⟩, Ho, ⟨%d0, H0⟩, ⟨%d1, H1⟩, ⟨%d2, H2⟩, H3⟩
    iapply (body1_first c (grid1.coords t) _ _ _ _ _ _ _ _ _ _ _ _ _ hA hB hC)
    isplitl [H0]; · iexact H0
    isplitl [H1]; · iexact H1
    isplitl [Hs]; · iexact Hs
    iintro ⟨H0, H1, Hs⟩
    isplitl [Hs Hr]
    · isplitl [Hs]
      · iexists _; isplitr; swap
        · iexact Hs
        · ipureintro; exact fun _ => (acc_first _ _ t h0).symm
      · iexact Hr
    isplitl [Ho]; · iexact Ho
    isplitl [H0]; · iexact H0
    isplitl [H1]; · iexact H1
    isplitl [H2]; · iexact H2
    iexact H3
  have hA : ¬isFirst (grid1.coords t) := fun h => h0 ((isFirst_iff t).mp h)
  have hB := (isLater_iff t).mpr h0
  by_cases h9 : t.val = 9
  · have hC := (isLast_iff t).mpr h9
    have hi : idle1 3 (grid1.coords t) = false := live_of hC
    unfold inv1
    rw [hi]
    iintro ⟨⟨⟨%X, %hX, Hs⟩, Hr⟩, Ho, ⟨%d0, H0⟩, ⟨%d1, H1⟩, ⟨%d2, H2⟩, ⟨%d3, H3⟩⟩
    iapply (body1_last c (grid1.coords t) _ _ _ _ _ _ _ _ _ _ _ _ _ _ _ hA hB hC)
    isplitl [H0]; · iexact H0
    isplitl [H1]; · iexact H1
    isplitl [H2]; · iexact H2
    isplitl [H3]; · iexact H3
    isplitl [Hs]; · iexact Hs
    have ha : k1_pay3 (hBlk (inH V c) t) (eBlk (inE V c) t) X = acc (inH V c) (inE V c) t.val := by rw [hX h0, acc_later _ _ t h0]
    rw [ha]
    have hp : k1_pay4 (acc (inH V c) (inE V c) t.val) (rBlk (inR V c) t) = (dat1 V c).after 3 t := by rw [h9, out_any]; rfl
    rw [hp]
    iintro ⟨H0, H1, H2, H3, Hs⟩
    isplitl [Hs Hr]
    · isplitl [Hs]
      · iexists _; isplitr; swap
        · iexact Hs
        · ipureintro; exact fun _ => rfl
      · iexact Hr
    isplitl [Ho]; · iexact Ho
    isplitl [H0]; · iexact H0
    isplitl [H1]; · iexact H1
    isplitl [H2]; · iexact H2
    iexact H3
  · have hC : ¬(k1_cond3 (grid1.coords t) = 1#1) := fun h => h9 ((isLast_iff t).mp h)
    have hi : idle1 3 (grid1.coords t) = true := idle_of hC
    have hf : (win1 3).flush t = false := by
      rw [← Bool.not_eq_true]; intro h; have := (flush1_3 t).mp h; omega
    unfold inv1
    rw [hi, hf]
    iintro ⟨⟨⟨%X, %hX, Hs⟩, Hr⟩, Ho, ⟨%d0, H0⟩, ⟨%d1, H1⟩, ⟨%d2, H2⟩, H3⟩
    iapply (body1_mid c (grid1.coords t) _ _ _ _ _ _ _ _ _ _ _ _ _ hA hB hC)
    isplitl [H0]; · iexact H0
    isplitl [H1]; · iexact H1
    isplitl [Hs]; · iexact Hs
    have ha : k1_pay3 (hBlk (inH V c) t) (eBlk (inE V c) t) X = acc (inH V c) (inE V c) t.val := by rw [hX h0, acc_later _ _ t h0]
    rw [ha]
    iintro ⟨H0, H1, Hs⟩
    isplitl [Hs Hr]
    · isplitl [Hs]
      · iexists _; isplitr; swap
        · iexact Hs
        · ipureintro; exact fun _ => rfl
      · iexact Hr
    isplitl [Ho]; · iexact Ho
    isplitl [H0]; · iexact H0
    isplitl [H1]; · iexact H1
    isplitl [H2]; · iexact H2
    iexact H3

end Cert.Proof.IdealRun

end
-- ==== Proof.IdealRun.Body2.lean ====
/-
  One grid point of the layers: what the body leaves in the result's buffer.
-/
module

public import proofs.«01_k».proof.Proof.IdealRun.Body1

@[expose] public section

noncomputable section

namespace Cert.Proof.IdealRun

open Cert.KernelIdeal Cert.KernelIdeal.Gen

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ

variable [FloatOps F] [Named F]

/-- What the layers leave for one block of rows. -/
def tower (i : grid2.Coords) (x1 : Vec F S1024x128 .f32) (x2 : Vec F S1x128 .f32) (x3 : Vec F S32x128 .f32) (x4 : Vec F S1x32 .f32) (x5 : Vec F S16x32 .f32) (x6 : Vec F S1x16 .f32) (x7 : Vec F S128x16 .f32) (x8 : Vec F S1x128 .f32) (x9 : Vec F S64x128 .f32) (x10 : Vec F S1x64 .f32) (x11 : Vec F S32x64 .f32) (x12 : Vec F S1x32 .f32) (x13 : Vec F S100x32 .f32) (x14 : Vec F S1x100 .f32) : Vec F S1024x100 .f32 :=
  k2_pay1 (k2_pay2 i x2 x1 x3 x4 x5 x6 x7) (k2_pay3 x8) x9 x10 x11 x12 x13 x14

section Run

variable (c : Dev nD) (i : grid2.Coords)
  (M1 : Memref sig .tc .vmem S1024x128 .f32) (h1 : M1.IsWhole)
  (M2 : Memref sig .tc .vmem S1x128 .f32) (h2 : M2.IsWhole)
  (M3 : Memref sig .tc .vmem S32x128 .f32) (h3 : M3.IsWhole)
  (M4 : Memref sig .tc .vmem S1x32 .f32) (h4 : M4.IsWhole)
  (M5 : Memref sig .tc .vmem S16x32 .f32) (h5 : M5.IsWhole)
  (M6 : Memref sig .tc .vmem S1x16 .f32) (h6 : M6.IsWhole)
  (M7 : Memref sig .tc .vmem S128x16 .f32) (h7 : M7.IsWhole)
  (M8 : Memref sig .tc .vmem S1x128 .f32) (h8 : M8.IsWhole)
  (M9 : Memref sig .tc .vmem S64x128 .f32) (h9 : M9.IsWhole)
  (M10 : Memref sig .tc .vmem S1x64 .f32) (h10 : M10.IsWhole)
  (M11 : Memref sig .tc .vmem S32x64 .f32) (h11 : M11.IsWhole)
  (M12 : Memref sig .tc .vmem S1x32 .f32) (h12 : M12.IsWhole)
  (M13 : Memref sig .tc .vmem S100x32 .f32) (h13 : M13.IsWhole)
  (M14 : Memref sig .tc .vmem S1x100 .f32) (h14 : M14.IsWhole)
  (M15 : Memref sig .tc .vmem S1024x100 .f32) (h15 : M15.IsWhole)
  (x1 : Vec F S1024x128 .f32)  (x2 : Vec F S1x128 .f32)  (x3 : Vec F S32x128 .f32)  (x4 : Vec F S1x32 .f32)  (x5 : Vec F S16x32 .f32)  (x6 : Vec F S1x16 .f32)  (x7 : Vec F S128x16 .f32)  (x8 : Vec F S1x128 .f32)  (x9 : Vec F S64x128 .f32)  (x10 : Vec F S1x64 .f32)  (x11 : Vec F S32x64 .f32)  (x12 : Vec F S1x32 .f32)  (x13 : Vec F S100x32 .f32)  (x14 : Vec F S1x100 .f32)  (x15 : Vec F S1024x100 .f32)

/-- The body reads its fourteen inputs and leaves the layers' result in the fifteenth buffer. -/
theorem body2 (Q : PUnit → sProp 𝕄) :
    iprop(owns (c : Thread nD τ) M1 fullShare x1 ∗ owns (c : Thread nD τ) M2 fullShare x2 ∗ owns (c : Thread nD τ) M3 fullShare x3 ∗ owns (c : Thread nD τ) M4 fullShare x4 ∗ owns (c : Thread nD τ) M5 fullShare x5 ∗ owns (c : Thread nD τ) M6 fullShare x6 ∗ owns (c : Thread nD τ) M7 fullShare x7 ∗ owns (c : Thread nD τ) M8 fullShare x8 ∗ owns (c : Thread nD τ) M9 fullShare x9 ∗ owns (c : Thread nD τ) M10 fullShare x10 ∗ owns (c : Thread nD τ) M11 fullShare x11 ∗ owns (c : Thread nD τ) M12 fullShare x12 ∗ owns (c : Thread nD τ) M13 fullShare x13 ∗ owns (c : Thread nD τ) M14 fullShare x14 ∗ owns (c : Thread nD τ) M15 fullShare x15
        ∗ ((owns (c : Thread nD τ) M1 fullShare x1 ∗ owns (c : Thread nD τ) M2 fullShare x2 ∗ owns (c : Thread nD τ) M3 fullShare x3 ∗ owns (c : Thread nD τ) M4 fullShare x4 ∗ owns (c : Thread nD τ) M5 fullShare x5 ∗ owns (c : Thread nD τ) M6 fullShare x6 ∗ owns (c : Thread nD τ) M7 fullShare x7 ∗ owns (c : Thread nD τ) M8 fullShare x8 ∗ owns (c : Thread nD τ) M9 fullShare x9 ∗ owns (c : Thread nD τ) M10 fullShare x10 ∗ owns (c : Thread nD τ) M11 fullShare x11 ∗ owns (c : Thread nD τ) M12 fullShare x12 ∗ owns (c : Thread nD τ) M13 fullShare x13 ∗ owns (c : Thread nD τ) M14 fullShare x14 ∗ owns (c : Thread nD τ) M15 fullShare (tower i x1 x2 x3 x4 x5 x6 x7 x8 x9 x10 x11 x12 x13 x14)) -∗ Q ⟨⟩))
      ⊢ wp frame (wpE (defs₀ (F := F)) 𝒱₀ (c : Thread nD τ) none) Set.univ (cc2__mlp_body i M1 h1 M2 h2 M3 h3 M4 h4 M5 h5 M6 h6 M7 h7 M8 h8 M9 h9 M10 h10 M11 h11 M12 h12 M13 h13 M14 h14 M15 h15) Q := by
  rw [cc2__mlp_body_eq_skeleton]
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, Hk⟩
  unfold cc2__mlp_body_skel
  rw [k2_part1_eq_skeleton]
  unfold k2_part1_skel
  sl_exec
  rw [wp_ret]; imodintro
  iapply Hk
  isplitl [H1]
  · iexists f1; isplitr
    · ipureintro; exact e1
    · iexact H1
  isplitl [H2]
  · iexists f2; isplitr
    · ipureintro; exact e2
    · iexact H2
  isplitl [H3]
  · iexists f3; isplitr
    · ipureintro; exact e3
    · iexact H3
  isplitl [H4]
  · iexists f4; isplitr
    · ipureintro; exact e4
    · iexact H4
  isplitl [H5]
  · iexists f5; isplitr
    · ipureintro; exact e5
    · iexact H5
  isplitl [H6]
  · iexists f6; isplitr
    · ipureintro; exact e6
    · iexact H6
  isplitl [H7]
  · iexists f7; isplitr
    · ipureintro; exact e7
    · iexact H7
  isplitl [H8]
  · iexists f8; isplitr
    · ipureintro; exact e8
    · iexact H8
  isplitl [H9]
  · iexists f9; isplitr
    · ipureintro; exact e9
    · iexact H9
  isplitl [H10]
  · iexists f10; isplitr
    · ipureintro; exact e10
    · iexact H10
  isplitl [H11]
  · iexists f11; isplitr
    · ipureintro; exact e11
    · iexact H11
  isplitl [H12]
  · iexists f12; isplitr
    · ipureintro; exact e12
    · iexact H12
  isplitl [H13]
  · iexists f13; isplitr
    · ipureintro; exact e13
    · iexact H13
  isplitl [H14]
  · iexists f14; isplitr
    · ipureintro; exact e14
    · iexact H14
  iexists _; isplitr [H15]
  rotate_left
  · iexact H15
  · ipureintro
    unfold tower
    sl_unfold_words
    rw [read_store_all _ _ zero2]
    rw [readAt_all M1.view f1 zero2, readAt_all M2.view f2 zero2, readAt_all M3.view f3 zero2, readAt_all M4.view f4 zero2, readAt_all M5.view f5 zero2, readAt_all M6.view f6 zero2, readAt_all M7.view f7 zero2, readAt_all M8.view f8 zero2, readAt_all M9.view f9 zero2, readAt_all M10.view f10 zero2, readAt_all M11.view f11 zero2, readAt_all M12.view f12 zero2, readAt_all M13.view f13 zero2, readAt_all M14.view f14 zero2,
      e1, e2, e3, e4, e5, e6, e7, e8, e9, e10, e11, e12, e13, e14]

end Run

end Cert.Proof.IdealRun

end
-- ==== Proof.IdealRun.Region2.lean ====
/-
  The layers as a pipeline: what each of its windows holds at each grid point, and that every point leaves it so.
-/
module

public import proofs.«01_k».proof.Proof.IdealRun.Region1
public import proofs.«01_k».proof.Proof.IdealRun.Body2

@[expose] public section

noncomputable section

namespace Cert.Proof.IdealRun

open Cert.KernelIdeal Cert.KernelIdeal.Gen

open Idealize.ShloMosaic
open Idealize.ShloMosaic.TcCoe
open Idealize.ShloMosaic.SparseCore.Cfg (HIx)
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ

variable [FloatOps F] [Named F]

variable (V : Dev nD → Valuation τ sig (Elt F))

/-! ## The blocks each point reads -/

abbrev in0 (c : Dev nD) (t : Fin cfg2.N) : Vec F S1024x128 .f32 := ((cfg2.win 0).blk t).view.read (Elt F) (V c (Proc.devRef .tc main_v0_0))
abbrev in1 (c : Dev nD) (t : Fin cfg2.N) : Vec F S1x128 .f32 := ((cfg2.win 1).blk t).view.read (Elt F) (V c (Proc.devRef .tc main_v3))
abbrev in2 (c : Dev nD) (t : Fin cfg2.N) : Vec F S32x128 .f32 := ((cfg2.win 2).blk t).view.read (Elt F) (V c (Proc.devRef .tc main_arg3))
abbrev in3 (c : Dev nD) (t : Fin cfg2.N) : Vec F S1x32 .f32 := ((cfg2.win 3).blk t).view.read (Elt F) (V c (Proc.devRef .tc main_v4))
abbrev in4 (c : Dev nD) (t : Fin cfg2.N) : Vec F S16x32 .f32 := ((cfg2.win 4).blk t).view.read (Elt F) (V c (Proc.devRef .tc main_arg5))
abbrev in5 (c : Dev nD) (t : Fin cfg2.N) : Vec F S1x16 .f32 := ((cfg2.win 5).blk t).view.read (Elt F) (V c (Proc.devRef .tc main_v5))
abbrev in6 (c : Dev nD) (t : Fin cfg2.N) : Vec F S128x16 .f32 := ((cfg2.win 6).blk t).view.read (Elt F) (V c (Proc.devRef .tc main_arg7))
abbrev in7 (c : Dev nD) (t : Fin cfg2.N) : Vec F S1x128 .f32 := ((cfg2.win 7).blk t).view.read (Elt F) (V c (Proc.devRef .tc main_v6))
abbrev in8 (c : Dev nD) (t : Fin cfg2.N) : Vec F S64x128 .f32 := ((cfg2.win 8).blk t).view.read (Elt F) (V c (Proc.devRef .tc main_arg9))
abbrev in9 (c : Dev nD) (t : Fin cfg2.N) : Vec F S1x64 .f32 := ((cfg2.win 9).blk t).view.read (Elt F) (V c (Proc.devRef .tc main_v7))
abbrev in10 (c : Dev nD) (t : Fin cfg2.N) : Vec F S32x64 .f32 := ((cfg2.win 10).blk t).view.read (Elt F) (V c (Proc.devRef .tc main_arg11))
abbrev in11 (c : Dev nD) (t : Fin cfg2.N) : Vec F S1x32 .f32 := ((cfg2.win 11).blk t).view.read (Elt F) (V c (Proc.devRef .tc main_v8))
abbrev in12 (c : Dev nD) (t : Fin cfg2.N) : Vec F S100x32 .f32 := ((cfg2.win 12).blk t).view.read (Elt F) (V c (Proc.devRef .tc main_arg13))
abbrev in13 (c : Dev nD) (t : Fin cfg2.N) : Vec F S1x100 .f32 := ((cfg2.win 13).blk t).view.read (Elt F) (V c (Proc.devRef .tc main_v9))

/-- What the layers leave at point `t`. -/
abbrev out14 (c : Dev nD) (t : Fin cfg2.N) : Vec F S1024x100 .f32 :=
  tower (grid2.coords t) (in0 V c t) (in1 V c t) (in2 V c t) (in3 V c t) (in4 V c t) (in5 V c t) (in6 V c t) (in7 V c t) (in8 V c t) (in9 V c t) (in10 V c t) (in11 V c t) (in12 V c t) (in13 V c t)

/-- The pipeline's data from the contents `V`. -/
def dat2 (c : Dev nD) : Dat τ (Elt F) (HIx 1) ℕ UU ℕ cfg2 c where
  A w := V c (Proc.devRef .tc (Pipeline.arrRef spec2 w))
  after w t := match w with
    | ⟨0, _⟩ => in0 V c t
    | ⟨1, _⟩ => in1 V c t
    | ⟨2, _⟩ => in2 V c t
    | ⟨3, _⟩ => in3 V c t
    | ⟨4, _⟩ => in4 V c t
    | ⟨5, _⟩ => in5 V c t
    | ⟨6, _⟩ => in6 V c t
    | ⟨7, _⟩ => in7 V c t
    | ⟨8, _⟩ => in8 V c t
    | ⟨9, _⟩ => in9 V c t
    | ⟨10, _⟩ => in10 V c t
    | ⟨11, _⟩ => in11 V c t
    | ⟨12, _⟩ => in12 V c t
    | ⟨13, _⟩ => in13 V c t
    | ⟨14, _⟩ => out14 V c t
  Φ _ := Pipeline.scopedRest (Ix := HIx 1) (Name := ℕ) (U := UU) (Lvl := ℕ) (Val := Elt F) spec2 c
  q _ := fullShare
  owed _ := 0
  recorded _ := waited (F := F) c

theorem before2_0 (c : Dev nD) (t : Fin cfg2.N) (d) : (dat2 V c).before 0 t d = in0 V c t :=
  (Dat.before_in_eq_fetched (dat2 V c) 0 rfl (fun _ => rfl) (fun _ _ _ => rfl) (fun _ => rfl) t d).trans rfl
theorem before2_1 (c : Dev nD) (t : Fin cfg2.N) (d) : (dat2 V c).before 1 t d = in1 V c t :=
  (Dat.before_in_eq_fetched (dat2 V c) 1 rfl (fun _ => rfl) (fun _ _ _ => rfl) (fun _ => rfl) t d).trans rfl
theorem before2_2 (c : Dev nD) (t : Fin cfg2.N) (d) : (dat2 V c).before 2 t d = in2 V c t :=
  (Dat.before_in_eq_fetched (dat2 V c) 2 rfl (fun _ => rfl) (fun _ _ _ => rfl) (fun _ => rfl) t d).trans rfl
theorem before2_3 (c : Dev nD) (t : Fin cfg2.N) (d) : (dat2 V c).before 3 t d = in3 V c t :=
  (Dat.before_in_eq_fetched (dat2 V c) 3 rfl (fun _ => rfl) (fun _ _ _ => rfl) (fun _ => rfl) t d).trans rfl
theorem before2_4 (c : Dev nD) (t : Fin cfg2.N) (d) : (dat2 V c).before 4 t d = in4 V c t :=
  (Dat.before_in_eq_fetched (dat2 V c) 4 rfl (fun _ => rfl) (fun _ _ _ => rfl) (fun _ => rfl) t d).trans rfl
theorem before2_5 (c : Dev nD) (t : Fin cfg2.N) (d) : (dat2 V c).before 5 t d = in5 V c t :=
  (Dat.before_in_eq_fetched (dat2 V c) 5 rfl (fun _ => rfl) (fun _ _ _ => rfl) (fun _ => rfl) t d).trans rfl
theorem before2_6 (c : Dev nD) (t : Fin cfg2.N) (d) : (dat2 V c).before 6 t d = in6 V c t :=
  (Dat.before_in_eq_fetched (dat2 V c) 6 rfl (fun _ => rfl) (fun _ _ _ => rfl) (fun _ => rfl) t d).trans rfl
theorem before2_7 (c : Dev nD) (t : Fin cfg2.N) (d) : (dat2 V c).before 7 t d = in7 V c t :=
  (Dat.before_in_eq_fetched (dat2 V c) 7 rfl (fun _ => rfl) (fun _ _ _ => rfl) (fun _ => rfl) t d).trans rfl
theorem before2_8 (c : Dev nD) (t : Fin cfg2.N) (d) : (dat2 V c).before 8 t d = in8 V c t :=
  (Dat.before_in_eq_fetched (dat2 V c) 8 rfl (fun _ => rfl) (fun _ _ _ => rfl) (fun _ => rfl) t d).trans rfl
theorem before2_9 (c : Dev nD) (t : Fin cfg2.N) (d) : (dat2 V c).before 9 t d = in9 V c t :=
  (Dat.before_in_eq_fetched (dat2 V c) 9 rfl (fun _ => rfl) (fun _ _ _ => rfl) (fun _ => rfl) t d).trans rfl
theorem before2_10 (c : Dev nD) (t : Fin cfg2.N) (d) : (dat2 V c).before 10 t d = in10 V c t :=
  (Dat.before_in_eq_fetched (dat2 V c) 10 rfl (fun _ => rfl) (fun _ _ _ => rfl) (fun _ => rfl) t d).trans rfl
theorem before2_11 (c : Dev nD) (t : Fin cfg2.N) (d) : (dat2 V c).before 11 t d = in11 V c t :=
  (Dat.before_in_eq_fetched (dat2 V c) 11 rfl (fun _ => rfl) (fun _ _ _ => rfl) (fun _ => rfl) t d).trans rfl
theorem before2_12 (c : Dev nD) (t : Fin cfg2.N) (d) : (dat2 V c).before 12 t d = in12 V c t :=
  (Dat.before_in_eq_fetched (dat2 V c) 12 rfl (fun _ => rfl) (fun _ _ _ => rfl) (fun _ => rfl) t d).trans rfl
theorem before2_13 (c : Dev nD) (t : Fin cfg2.N) (d) : (dat2 V c).before 13 t d = in13 V c t :=
  (Dat.before_in_eq_fetched (dat2 V c) 13 rfl (fun _ => rfl) (fun _ _ _ => rfl) (fun _ => rfl) t d).trans rfl

/-- Every point takes the invariant and the windows' buffers to what the data says. -/
theorem body_obligation2 (c : Dev nD) : BodyObligation (dat2 V c) (defs₀ (F := F)) 𝒱₀ none Set.univ := fun t => by
  rw [bigSep_W2, bigSep_W2]
  rw [show (dat2 V c).Φ t.succ = (dat2 V c).Φ t.castSucc from rfl,
    show (dat2 V c).owesAt none t.succ = (dat2 V c).owesAt none t.castSucc from rfl]
  show _ ⊢ wp frame (wpE (defs₀ (F := F)) 𝒱₀ (c : Thread nD τ) none) Set.univ (bodyAt2 t) _
  simp only [before2_0, before2_1, before2_2, before2_3, before2_4, before2_5, before2_6, before2_7, before2_8, before2_9, before2_10, before2_11, before2_12, before2_13]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (body2 c (grid2.coords t) _ _ _ _ _ _ _ _ _ _ _ _ _ _ _ _ _ _ _ _ _ _ _ _ _ _ _ _ _ _ _ _ _ _ _ _ _ _ _ _ _ _ _ _ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iintro ⟨H0, H1, H2, H3, H4, H5, H6, H7, H8, H9, H10, H11, H12, H13, H14⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

end Cert.Proof.IdealRun

end
-- ==== Proof.IdealRun.Regions.lean ====
/-
  The two pipelines as regions of the program: each is entered from every unscoped buffer at some contents and left with
  its result's array rewritten and the rest as it was.
-/
module

public import proofs.«01_k».proof.Proof.IdealRun.Region2

@[expose] public section

noncomputable section

namespace Cert.Proof.IdealRun

open Cert.KernelIdeal Cert.KernelIdeal.Gen

open Idealize.ShloMosaic
open Idealize.ShloMosaic.TcCoe
open Idealize.ShloMosaic.SparseCore.Cfg (HIx)
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ

variable [FloatOps F] [Named F]

variable (V : Dev nD → Valuation τ sig (Elt F))

/-- No pipeline prefetches a table. -/
abbrev adm (p : Fin 2) : (pcfgs (F := F) p).Adm := (cfgs p).toPCfg_adm

theorem kit1 : Pipeline.PLaunchFacts (nD := nD) (τ := τ) (pcfgs (F := F)) 0 := launch1.toP
theorem kit2 : Pipeline.PLaunchFacts (nD := nD) (τ := τ) (pcfgs (F := F)) 1 := launch2.toP

/-- Both pipelines' data from the contents `V`. -/
def pdats : (p : Fin 2) → (c : Dev nD) → Dat τ (Elt F) (HIx 1) ℕ UU ℕ (Pipeline.pin (pcfgs (F := F)) adm p) c
  | ⟨0, _⟩ => dat1 V
  | ⟨1, _⟩ => dat2 V

/-- The core owes nothing and has waited at or below level eight only. -/
def settled (c : Dev nD) : sProp 𝕄 :=
  iprop(∃ W, ⌜(K (F := F)).WBelow (c : Thread nD τ) W 8⌝ ∗ owes (c : Thread nD τ) (0 : CellTallies nD τ sig (HIx 1)) W)

/-- Every unscoped buffer at the contents `V`, the core settled. -/
def state (c : Dev nD) : sProp 𝕄 :=
  iprop(StableHlo.held (c : Thread nD τ) (Pipeline.ucRefs τ sig) (V c) ∗ settled (F := F) c)

/-- The contents after each region. -/
def after1 (c : Dev nD) : Valuation τ sig (Elt F) := Pipeline.afterRegion (dat1 V c) (V c)
def after2 (c : Dev nD) : Valuation τ sig (Elt F) := Pipeline.afterRegion (dat2 V c) (V c)

theorem in_inv1 (c : Dev nD) :
    (Pipeline.scopedRest (Ix := HIx 1) (Name := ℕ) (U := UU) (Lvl := ℕ) (Val := Elt F) spec1 c : sProp 𝕄) ⊢ inv1 V c 0 := by
  rw [rest1_eq]
  unfold inv1
  iintro ⟨⟨%f, Hf⟩, Hr⟩
  isplitl [Hf]
  · iexists f; isplitr
    · ipureintro; exact fun h => absurd rfl h
    · rw [owns_whole_eq]
      iexists f; isplitr
      · ipureintro; rfl
      · iexact Hf
  · iexact Hr

theorem out_inv1 (c : Dev nD) (n : ℕ) : inv1 V c n
    ⊢ (Pipeline.scopedRest (Ix := HIx 1) (Name := ℕ) (U := UU) (Lvl := ℕ) (Val := Elt F) spec1 c : sProp 𝕄) := by
  rw [rest1_eq]
  unfold inv1
  rw [show (fun X : Vec F S32x128 .f32 => (iprop(⌜n ≠ 0 → X = acc (inH V c) (inE V c) (n - 1)⌝ ∗ owns (c : Thread nD τ) (Memref.whole cc1_scratch0) fullShare X) : sProp 𝕄))
    = fun X => iprop(⌜n ≠ 0 → X = acc (inH V c) (inE V c) (n - 1)⌝ ∗ ∃ f : Buf (Elt F) ((c : Thread nD τ).loc cc1_scratch0), ⌜f = X⌝ ∗ (((c : Thread nD τ).loc cc1_scratch0) ↦{fullShare} f)) from
      funext fun X => by rw [owns_whole_eq]]
  iintro ⟨⟨%X, -, %f, -, Hf⟩, Hr⟩
  isplitl [Hf]
  · iexists f; iexact Hf
  · iexact Hr

set_option backward.isDefEq.respectTransparency.types false in
/-- Pipeline 1's region. -/
def reg1 : Pipeline.RegionSeg (pcfgs (F := F)) adm (pdats V) (none : HIx 1) (defs₀ (F := F)) 𝒱₀ (K (F := F)).L (K (F := F)).lev 0 where
  win := (kit1 (F := F)).win.to₀
  block_pos := launch1.block_pos
  stage_whole := launch1.stage_whole
  K := PEmpty
  osem k := k.elim
  ho := Pipeline.OwnSemFacts.none _
  hbody c := (body_obligation1 V c).loose
  hwaits := Pipeline.hwaits_of_owed_zero _ _ _ _ (K (F := F)).L (K (F := F)).lev 0 fun _ _ => rfl
  pre c := state V c
  post c := state (after1 V) c
  X _ := BI.emp
  Y _ := BI.emp
  Z c := Pipeline.unscopedRest (Ix := HIx 1) (Name := ℕ) (U := UU) (Lvl := ℕ) spec1 c (fun b => V c (Proc.devRef .tc b))
  hentry c := by
    rw [Pipeline.ownSems0_none]
    have hsplit := Pipeline.arrays_of_unscopedBufs (p := 0) (pcfgs (F := F)) adm (pdats V) (kit1 (F := F)).win (kit1 (F := F)).arr_whole c
      ((pdats V 0 c).share_full fun _ => rfl) (fun b => V c (Proc.devRef .tc b)) fun _ => rfl
    unfold state settled
    rw [show StableHlo.held (c : Thread nD τ) (Pipeline.ucRefs τ sig) (V c) = (unscopedBufs c (fun b => V c (Proc.devRef .tc b)) : sProp 𝕄)
      from (Pipeline.unscopedBufs_held (Ix := HIx 1) (Name := ℕ) (U := UU) (Lvl := ℕ) c (V c)).symm]
    iintro ⟨⟨Hub, ⟨%W, %hW, HO⟩⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl (hW p hp)
      iexact HO
    isplitr; · iempintro
    iexact Hrest
  hin c := (show _ ⊢ (Pipeline.scopedRest (Ix := HIx 1) (Name := ℕ) (U := UU) (Lvl := ℕ) (Val := Elt F) spec1 c : sProp 𝕄) from by
    iintro ⟨-, -, Hr⟩; iexact Hr).trans (in_inv1 V c)
  hout c := (out_inv1 V c _).trans (by
    rw [Pipeline.ownSems0_none]
    show (Pipeline.scopedRest (Ix := HIx 1) (Name := ℕ) (U := UU) (Lvl := ℕ) (Val := Elt F) spec1 c : sProp 𝕄) ⊢ _
    iintro Hr
    isplitr; · iempintro
    isplitr; · iempintro
    iexact Hr)
  hexit c := by
    have hjoin := Pipeline.unscopedBufs_of_arrays (p := 0) (pcfgs (F := F)) adm (Ix := HIx 1) (Name := ℕ) (U := UU) (Lvl := ℕ) (kit1 (F := F)).win (kit1 (F := F)).arr_whole c
      (pdats V) ((pdats V 0 c).share_full fun _ => rfl) (fun b => V c (Proc.devRef .tc b)) (fun b => after1 V c (Proc.devRef .tc b)) ((pdats V 0 c).arrAt · cfg1.N)
      (fun w => (Pipeline.afterRegion_arr (dat1 V c) (V c) launch1.win.arr_inj w).symm)
      (fun b hb => Pipeline.afterRegion_of_not_arr (dat1 V c) (V c)
        fun w h => hb (h ▸ Finset.mem_image.mpr ⟨w, Finset.mem_univ _, rfl⟩))
    unfold state settled
    rw [show StableHlo.held (c : Thread nD τ) (Pipeline.ucRefs τ sig) (after1 V c) = (unscopedBufs c (fun b => after1 V c (Proc.devRef .tc b)) : sProp 𝕄)
      from (Pipeline.unscopedBufs_held (Ix := HIx 1) (Name := ℕ) (U := UU) (Lvl := ℕ) c (after1 V c)).symm]
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W; isplitr
    · ipureintro
      intro p hp
      rcases hW hp with h | ⟨w, s, h⟩
      · exact h
      · rw [h]; exact Nat.zero_le _
    iexact HO

set_option backward.isDefEq.respectTransparency.types false in
/-- Pipeline 2's region. -/
def reg2 : Pipeline.RegionSeg (pcfgs (F := F)) adm (pdats V) (none : HIx 1) (defs₀ (F := F)) 𝒱₀ (K (F := F)).L (K (F := F)).lev 1 where
  win := (kit2 (F := F)).win.to₀
  block_pos := launch2.block_pos
  stage_whole := launch2.stage_whole
  K := PEmpty
  osem k := k.elim
  ho := Pipeline.OwnSemFacts.none _
  hbody c := (body_obligation2 V c).loose
  hwaits := Pipeline.hwaits_of_owed_zero _ _ _ _ (K (F := F)).L (K (F := F)).lev 1 fun _ _ => rfl
  pre c := state V c
  post c := state (after2 V) c
  X _ := BI.emp
  Y _ := BI.emp
  Z c := Pipeline.unscopedRest (Ix := HIx 1) (Name := ℕ) (U := UU) (Lvl := ℕ) spec2 c (fun b => V c (Proc.devRef .tc b))
  hentry c := by
    rw [Pipeline.ownSems0_none]
    have hsplit := Pipeline.arrays_of_unscopedBufs (p := 1) (pcfgs (F := F)) adm (pdats V) (kit2 (F := F)).win (kit2 (F := F)).arr_whole c
      ((pdats V 1 c).share_full fun _ => rfl) (fun b => V c (Proc.devRef .tc b)) fun _ => rfl
    unfold state settled
    rw [show StableHlo.held (c : Thread nD τ) (Pipeline.ucRefs τ sig) (V c) = (unscopedBufs c (fun b => V c (Proc.devRef .tc b)) : sProp 𝕄)
      from (Pipeline.unscopedBufs_held (Ix := HIx 1) (Name := ℕ) (U := UU) (Lvl := ℕ) c (V c)).symm]
    iintro ⟨⟨Hub, ⟨%W, %hW, HO⟩⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl (hW p hp)
      iexact HO
    isplitr; · iempintro
    iexact Hrest
  hin c := (show _ ⊢ (Pipeline.scopedRest (Ix := HIx 1) (Name := ℕ) (U := UU) (Lvl := ℕ) (Val := Elt F) spec2 c : sProp 𝕄) from by
    iintro ⟨-, -, Hr⟩; iexact Hr)
  hout c := (by
    rw [Pipeline.ownSems0_none]
    show (Pipeline.scopedRest (Ix := HIx 1) (Name := ℕ) (U := UU) (Lvl := ℕ) (Val := Elt F) spec2 c : sProp 𝕄) ⊢ _
    iintro Hr
    isplitr; · iempintro
    isplitr; · iempintro
    iexact Hr)
  hexit c := by
    have hjoin := Pipeline.unscopedBufs_of_arrays (p := 1) (pcfgs (F := F)) adm (Ix := HIx 1) (Name := ℕ) (U := UU) (Lvl := ℕ) (kit2 (F := F)).win (kit2 (F := F)).arr_whole c
      (pdats V) ((pdats V 1 c).share_full fun _ => rfl) (fun b => V c (Proc.devRef .tc b)) (fun b => after2 V c (Proc.devRef .tc b)) ((pdats V 1 c).arrAt · cfg2.N)
      (fun w => (Pipeline.afterRegion_arr (dat2 V c) (V c) launch2.win.arr_inj w).symm)
      (fun b hb => Pipeline.afterRegion_of_not_arr (dat2 V c) (V c)
        fun w h => hb (h ▸ Finset.mem_image.mpr ⟨w, Finset.mem_univ _, rfl⟩))
    unfold state settled
    rw [show StableHlo.held (c : Thread nD τ) (Pipeline.ucRefs τ sig) (after2 V c) = (unscopedBufs c (fun b => after2 V c (Proc.devRef .tc b)) : sProp 𝕄)
      from (Pipeline.unscopedBufs_held (Ix := HIx 1) (Name := ℕ) (U := UU) (Lvl := ℕ) c (after2 V c)).symm]
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W; isplitr
    · ipureintro
      intro p hp
      rcases hW hp with h | ⟨w, s, h⟩
      · exact h
      · rw [h]; exact Nat.zero_le _
    iexact HO

end Cert.Proof.IdealRun

end
-- ==== Proof.IdealRun.Tile.lean ====
/-
  One vector subcore's task: it counts its 9728 tokens into a histogram row, then gathers its 512 embedding rows in four
  lists of 128.
-/
module

public import proofs.«01_k».proof.Proof.IdealRun.Setup

@[expose] public section

noncomputable section

namespace Cert.Proof.IdealRun

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tV" => (Memref.whole Cert.KernelIdeal.main_arg0_scv : Memref Cert.KernelIdeal.sig Kind.scVector Space.hbm Cert.KernelIdeal.S327680 EltTy.i32)
local notation "eV" => (Memref.whole Cert.KernelIdeal.main_arg2_scv : Memref Cert.KernelIdeal.sig Kind.scVector Space.hbm Cert.KernelIdeal.S100000x128 EltTy.f32)
local notation "bV" => (Memref.whole Cert.KernelIdeal.main_v0_0_scv : Memref Cert.KernelIdeal.sig Kind.scVector Space.hbm Cert.KernelIdeal.S16384x128 EltTy.f32)
local notation "hV" => (Memref.whole Cert.KernelIdeal.main_v0_1_scv : Memref Cert.KernelIdeal.sig Kind.scVector Space.hbm Cert.KernelIdeal.S32x100000 EltTy.f32)
local notation "iV" => (Memref.whole Cert.KernelIdeal.cc0_scratch0 : Memref Cert.KernelIdeal.sig Kind.scVector Space.vmem Cert.KernelIdeal.S128 EltTy.i32)
local notation "rV" => (Memref.whole Cert.KernelIdeal.cc0_scratch1 : Memref Cert.KernelIdeal.sig Kind.scVector Space.vmem Cert.KernelIdeal.S128x128 EltTy.f32)
local notation "lV" => (Memref.whole Cert.KernelIdeal.cc0_scratch2 : Memref Cert.KernelIdeal.sig Kind.scVector Space.vmem Cert.KernelIdeal.S9728 EltTy.i32)
local notation "cV" => (Memref.whole Cert.KernelIdeal.cc0_scratch3 : Memref Cert.KernelIdeal.sig Kind.scVector Space.vmem Cert.KernelIdeal.S100000 EltTy.f32)

/-! ## The pieces of the two results -/

theorem bdiv : 128 ∣ S16384x128.size 0 := ⟨128, rfl⟩
theorem hdiv : 32 ∣ S32x100000.size 0 := ⟨1, rfl⟩
/-- Block `i` of 128 rows of the gathered rows; row `i` of the histograms. -/
abbrev bRect (i : Fin 128) : Rect S16384x128 := Rect.part (s := S16384x128) (a₀ := 0) bdiv i
abbrev hRect (i : Fin 32) : Rect S32x100000 := Rect.part (s := S32x100000) (a₀ := 0) hdiv i

/-- Block `r` of worker `w`. -/
def blk (w : Fin 32) (r : Fin 4) : Fin 128 := ⟨4 * w.val + r.val, by omega⟩

/-- What a task is handed: its shares of the token list and of the table, its four blocks of the gathered rows, its row
    of the histograms. -/
def tileRes (m : (ℓ : Loc nD τ sig) → Buf (Elt F) ℓ) (d : Dev nD) (w : Fin 32) (fb : Buf (Elt F) (bLoc d)) (fh : Buf (Elt F) (hLoc d)) : sProp 𝕄 :=
  iprop((tLoc d ↦{cut 31 fullShare w} m (tLoc d)) ∗ (eLoc d ↦{cut 31 fullShare w} m (eLoc d))
    ∗ (bLoc d ↦[(bRect (blk w 0)).set]{fullShare} fb) ∗ (bLoc d ↦[(bRect (blk w 1)).set]{fullShare} fb)
    ∗ (bLoc d ↦[(bRect (blk w 2)).set]{fullShare} fb) ∗ (bLoc d ↦[(bRect (blk w 3)).set]{fullShare} fb)
    ∗ (hLoc d ↦[(hRect w).set]{fullShare} fh))

instance tileRes_storable (m : (ℓ : Loc nD τ sig) → Buf (Elt F) ℓ) (d : Dev nD) (w : Fin 32) (fb : Buf (Elt F) (bLoc d)) (fh : Buf (Elt F) (hLoc d)) :
    BI.Storable (upEmb : UEmb _ 𝕄) (tileRes m d w fb fh) := by unfold tileRes; infer_instance

/-- Every token names a row of the table. -/
def PreOK (m : (ℓ : Loc nD τ sig) → Buf (Elt F) ℓ) : Prop := ∀ (d : Dev nD) (j : S327680.Idx), (m (tLoc d) j).toNat < 100000

/-! ## The task's places -/

variable (m : (ℓ : Loc nD τ sig) → Buf (Elt F) ℓ) (d : Dev nD) (L : grid0.Coords)

abbrev cS (L : grid0.Coords) : Fin τ.nSC := (L 0).castLE hcore0
abbrev jS (L : grid0.Coords) : Fin τ.nSub := (L 1).castLE hsub0
/-- The task's number. -/
def wid (L : grid0.Coords) : Fin 32 := ⟨2 * (L 1).val + (L 0).val, by
  have h0 : (L 0).val < 2 := (L 0).isLt
  have h1 : (L 1).val < 16 := (L 1).isLt
  omega⟩

/-- Block `r` of the task's rows, as the task addresses it. -/
abbrev bK (L : grid0.Coords) (r : Fin 4) : Memref sig .scVector .hbm S128x128 .f32 :=
  (bV).slice (Rect.unit (s := S16384x128) (k0_off6 L (BitVec.ofNat 32 (128 * r.val))) S128x128.size (k0_off6_inb L r)) (fun _ => rfl)
abbrev hK (L : grid0.Coords) : Memref sig .scVector .hbm S100000 .f32 :=
  ((hV).slice (Rect.unit (s := S32x100000) (k0_off4 L) S1x100000.size (k0_off4_inb L)) (fun _ => rfl)).squeeze S100000 squeezes_S1x100000_S100000
abbrev tK (L : grid0.Coords) (r : Fin 4) : Memref sig .scVector .hbm S128 .i32 :=
  (tV).slice (Rect.unit (s := S327680) (k0_off5 L (BitVec.ofNat 32 (128 * r.val))) S128.size (k0_off5_inb L r)) (fun _ => rfl)
abbrev eAll : Memref sig .scVector .hbm S100000x128 .f32 :=
  (eV).slice (Rect.unit (s := S100000x128) ![0, 0] S100000x128.size inb_S100000x128_S100000x128_0_0) (fun _ => rfl)

theorem bRectK_eq (r : Fin 4) :
    Rect.unit (s := S16384x128) (k0_off6 L (BitVec.ofNat 32 (128 * r.val))) S128x128.size (k0_off6_inb L r) = bRect (blk (wid L) r) := by
  unfold bRect Rect.part Rect.block
  congr 1 <;> funext a
  · rw [k0_off6_eq]
    match a with
    | 0 => simp [Shape.partIx, Shape.partSize, blk, wid]; omega
    | 1 => simp [Shape.partIx, Shape.partSize]
  · match a with
    | 0 => simp [Shape.partSize]
    | 1 => simp [Shape.partSize]
theorem hRectK_eq : Rect.unit (s := S32x100000) (k0_off4 L) S1x100000.size (k0_off4_inb L) = hRect (wid L) := by
  unfold hRect Rect.part Rect.block
  congr 1 <;> funext a
  · rw [k0_off4_eq]
    match a with
    | 0 => simp [Shape.partIx, Shape.partSize, wid]
    | 1 => simp [Shape.partIx, Shape.partSize]
  · match a with
    | 0 => simp [Shape.partSize]
    | 1 => simp [Shape.partSize]

theorem set_bK (r : Fin 4) : (bK L r).view.set = (bRect (blk (wid L) r)).set := by
  show ((View.whole (main_v0_0_scv : Ref sig .scVector)).slice _).set = _
  rw [View.set_slice, bRectK_eq]; exact Finset.map_refl
theorem set_hK : (hK L).view.set = (hRect (wid L)).set := by
  show (((View.whole (main_v0_1_scv : Ref sig .scVector)).slice (Rect.unit (s := S32x100000) (k0_off4 L) S1x100000.size (k0_off4_inb L))).reshape S100000 squeezes_S1x100000_S100000.numel_eq).set = _
  rw [View.set_reshape, View.set_slice]; exact (Finset.map_refl).trans (congrArg (fun r : Rect S32x100000 => r.set) (hRectK_eq L))

theorem pts_bK (r : Fin 4) (f : Buf (Elt F) (bLoc d)) :
    ((bK L r).view.loc (V d (cS L) (jS L)) ↦[(bK L r).view.set]{fullShare} f : sProp 𝕄) = bLoc d ↦[(bRect (blk (wid L) r)).set]{fullShare} f := by
  rw [set_bK]
theorem pts_hK (f : Buf (Elt F) (hLoc d)) :
    ((hK L).view.loc (V d (cS L) (jS L)) ↦[(hK L).view.set]{fullShare} f : sProp 𝕄) = hLoc d ↦[(hRect (wid L)).set]{fullShare} f := by
  rw [set_hK]
theorem pts_tV (q : PosShare TreeShare) (f : Buf (Elt F) (tLoc d)) :
    ((tV).view.loc (V d (cS L) (jS L)) ↦{q} f : sProp 𝕄) = tLoc d ↦{q} f := rfl
theorem pts_eV (q : PosShare TreeShare) (f : Buf (Elt F) (eLoc d)) :
    ((eV).view.loc (V d (cS L) (jS L)) ↦{q} f : sProp 𝕄) = eLoc d ↦{q} f := rfl
theorem pts_iV (f : Buf (Elt F) ((V d (cS L) (jS L)).loc cc0_scratch0)) :
    ((iV).view.loc (V d (cS L) (jS L)) ↦{fullShare} f : sProp 𝕄) = (V d (cS L) (jS L)).loc cc0_scratch0 ↦{fullShare} f := rfl
theorem pts_rV (f : Buf (Elt F) ((V d (cS L) (jS L)).loc cc0_scratch1)) :
    ((rV).view.loc (V d (cS L) (jS L)) ↦{fullShare} f : sProp 𝕄) = (V d (cS L) (jS L)).loc cc0_scratch1 ↦{fullShare} f := rfl
theorem pts_lV (f : Buf (Elt F) ((V d (cS L) (jS L)).loc cc0_scratch2)) :
    ((lV).view.loc (V d (cS L) (jS L)) ↦{fullShare} f : sProp 𝕄) = (V d (cS L) (jS L)).loc cc0_scratch2 ↦{fullShare} f := rfl
theorem pts_cV (f : Buf (Elt F) ((V d (cS L) (jS L)).loc cc0_scratch3)) :
    ((cV).view.loc (V d (cS L) (jS L)) ↦{fullShare} f : sProp 𝕄) = (V d (cS L) (jS L)).loc cc0_scratch3 ↦{fullShare} f := rfl

/-! ## What the subcore owns -/

/-- The cells of the task's eleven DMA semaphores: the gathers', then one per copy. -/
def semOf : Fin 11 → DmaSem sig
  | 0 => cc0_scratch4.sem | 1 => cc0_scoped0.sem | 2 => cc0_scoped1.sem | 3 => cc0_scoped2.sem | 4 => cc0_scoped3.sem | 5 => cc0_scoped4.sem
  | 6 => cc0_scoped5.sem | 7 => cc0_scoped6.sem | 8 => cc0_scoped7.sem | 9 => cc0_scoped8.sem | 10 => cc0_scoped9.sem
theorem semOf_injective : Function.Injective semOf := by decide
abbrev cellK (d : Dev nD) (L : grid0.Coords) (i : Fin 11) : GSem nD τ sig := (V d (cS L) (jS L), .dma (semOf i))
theorem cellK_injective : Function.Injective (cellK d L) := fun i j e => semOf_injective (SemLoc.dma.inj (Prod.mk.inj e).2)
def cellsK (d : Dev nD) (L : grid0.Coords) : Finset (GSem nD τ sig) := Finset.univ.map ⟨cellK d L, cellK_injective d L⟩
theorem semOf_scoped : ∀ i, (SemLoc.dma (semOf i) : SemLoc sig).isScoped .scVector = true := by decide
theorem cellsK_sub : cellsK d L ⊆ ownCells (V d (cS L) (jS L)) := fun g hg => by
  obtain ⟨i, -, rfl⟩ := Finset.mem_map.mp hg
  exact (mem_ownCells (g := cellK d L i)).mpr ⟨rfl, semOf_scoped i⟩

theorem ownSems0_K :
    (ownSems0 (V d (cS L) (jS L)) : sProp 𝕄)
      = iprop((semVal (cellK d L 0) 0 ∗ semVal (cellK d L 1) 0 ∗ semVal (cellK d L 2) 0 ∗ semVal (cellK d L 3) 0 ∗ semVal (cellK d L 4) 0
          ∗ semVal (cellK d L 5) 0 ∗ semVal (cellK d L 6) 0 ∗ semVal (cellK d L 7) 0 ∗ semVal (cellK d L 8) 0 ∗ semVal (cellK d L 9) 0
          ∗ semVal (cellK d L 10) 0)
          ∗ bigSep (ownCells (V d (cS L) (jS L)) \ cellsK d L) fun g => semVal g 0) := by
  unfold SparseCore.Cfg.ownSems0
  conv_lhs => rw [← Finset.union_sdiff_of_subset (cellsK_sub d L)]
  rw [bigSep_union Finset.disjoint_sdiff]
  congr 1
  unfold cellsK
  rw [bigSep_map]
  exact bigSep_univ_eq_bigSepL [0, 1, 2, 3, 4, 5, 6, 7, 8, 9, 10] (by decide) (by decide) _

/-- The task's four scratch buffers: a list of 128 tokens, its rows, the 9728 tokens, the counts. -/
def scrOf : Fin 4 → Ref sig .scVector
  | 0 => cc0_scratch0 | 1 => cc0_scratch1 | 2 => cc0_scratch2 | 3 => cc0_scratch3
theorem scrOf_injective : Function.Injective scrOf := by decide
def bufK (L : grid0.Coords) (i : Fin 4) : DevRef τ sig := (Proc.scVector (cS L) (jS L)).devRef (scrOf i)

theorem ownBufs_K :
    (ownBufs (V d (cS L) (jS L)) : sProp 𝕄)
      = iprop((∃ f, (V d (cS L) (jS L)).loc cc0_scratch0 ↦{fullShare} f) ∗ (∃ f, (V d (cS L) (jS L)).loc cc0_scratch1 ↦{fullShare} f)
          ∗ (∃ f, (V d (cS L) (jS L)).loc cc0_scratch2 ↦{fullShare} f) ∗ (∃ f, (V d (cS L) (jS L)).loc cc0_scratch3 ↦{fullShare} f)
          ∗ bigSep (((((ownRefs (τ := τ) (.scVector (cS L) (jS L))).erase (bufK L 0)).erase (bufK L 1)).erase (bufK L 2)).erase (bufK L 3))
              fun b => iprop(∃ f, ((d, b) : Loc nD τ sig) ↦{fullShare} f)) := by
  have mem : ∀ i, bufK L i ∈ ownRefs (τ := τ) (.scVector (cS L) (jS L)) := fun i => by
    fin_cases i <;> exact SparseCore.Cfg.mem_ownRefs_of_owner (p := Proc.scVector (cS L) (jS L)) rfl
  have ne : ∀ i j, i ≠ j → bufK L i ≠ bufK L j := fun i j h e =>
    h (scrOf_injective (Proc.devRef_injective _ e))
  unfold SparseCore.Cfg.ownBufs
  refine (SparseCore.bigSep_erase' (mem 0)).trans ?_
  rw [SparseCore.bigSep_erase' (Finset.mem_erase.mpr ⟨ne 1 0 (by decide), mem 1⟩),
    SparseCore.bigSep_erase' (Finset.mem_erase.mpr ⟨ne 2 1 (by decide), Finset.mem_erase.mpr ⟨ne 2 0 (by decide), mem 2⟩⟩),
    SparseCore.bigSep_erase' (Finset.mem_erase.mpr ⟨ne 3 2 (by decide), Finset.mem_erase.mpr ⟨ne 3 1 (by decide), Finset.mem_erase.mpr ⟨ne 3 0 (by decide), mem 3⟩⟩⟩)]
  rfl

end Cert.Proof.IdealRun

end
-- ==== Proof.IdealRun.Loops.lean ====
/-
  The two loops of a task: the one that zeroes its counts, the one that counts its tokens.
-/
module

public import proofs.«01_k».proof.Proof.IdealRun.Tile

@[expose] public section

noncomputable section

namespace Cert.Proof.IdealRun

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tV" => (Memref.whole Cert.KernelIdeal.main_arg0_scv : Memref Cert.KernelIdeal.sig Kind.scVector Space.hbm Cert.KernelIdeal.S327680 EltTy.i32)
local notation "eV" => (Memref.whole Cert.KernelIdeal.main_arg2_scv : Memref Cert.KernelIdeal.sig Kind.scVector Space.hbm Cert.KernelIdeal.S100000x128 EltTy.f32)
local notation "bV" => (Memref.whole Cert.KernelIdeal.main_v0_0_scv : Memref Cert.KernelIdeal.sig Kind.scVector Space.hbm Cert.KernelIdeal.S16384x128 EltTy.f32)
local notation "hV" => (Memref.whole Cert.KernelIdeal.main_v0_1_scv : Memref Cert.KernelIdeal.sig Kind.scVector Space.hbm Cert.KernelIdeal.S32x100000 EltTy.f32)
local notation "iV" => (Memref.whole Cert.KernelIdeal.cc0_scratch0 : Memref Cert.KernelIdeal.sig Kind.scVector Space.vmem Cert.KernelIdeal.S128 EltTy.i32)
local notation "rV" => (Memref.whole Cert.KernelIdeal.cc0_scratch1 : Memref Cert.KernelIdeal.sig Kind.scVector Space.vmem Cert.KernelIdeal.S128x128 EltTy.f32)
local notation "lV" => (Memref.whole Cert.KernelIdeal.cc0_scratch2 : Memref Cert.KernelIdeal.sig Kind.scVector Space.vmem Cert.KernelIdeal.S9728 EltTy.i32)
local notation "cV" => (Memref.whole Cert.KernelIdeal.cc0_scratch3 : Memref Cert.KernelIdeal.sig Kind.scVector Space.vmem Cert.KernelIdeal.S100000 EltTy.f32)

variable [FloatOps F] [Named F]
variable (m : (ℓ : Loc nD τ sig) → Buf (Elt F) ℓ) (d : Dev nD) (L : grid0.Coords)

/-- Before trip `k` of the first loop the first `16 k` counts are zero. -/
def zeroInv (d : Dev nD) (L : grid0.Coords) (k : ℕ) (_ : Unit) : sProp 𝕄 :=
  iprop(∃ f, ⌜∀ j : S100000.Idx, (j 0).val < 16 * k → f j = bins (F := F) (fun _ => 0) 0 j⌝ ∗ ((cV).view.loc (V d (cS L) (jS L)) ↦{fullShare} f))

theorem zero_trip (k : Fin k0_t1_loop.trips) :
    zeroInv (F := F) d L k.val ⟨⟩ ⊢ wp frame (wpE (defs₀ (F := F)) 𝒱₀ (V d (cS L) (jS L)) none) Set.univ
      (k0_t1_body L tV (Memref.isWhole_whole _) eV (Memref.isWhole_whole _) bV (Memref.isWhole_whole _) hV (Memref.isWhole_whole _)
        iV (Memref.isWhole_whole _) rV (Memref.isWhole_whole _) lV (Memref.isWhole_whole _) cV (Memref.isWhole_whole _)
        cc0_scratch4 cc0_scoped0 cc0_scoped1 cc0_scoped2 cc0_scoped3 cc0_scoped4 cc0_scoped5 cc0_scoped6 cc0_scoped7 cc0_scoped8 cc0_scoped9 k ⟨⟩)
      fun _ => zeroInv (F := F) d L (k.val + 1) ⟨⟩ := by
  unfold k0_t1_body zeroInv
  iintro ⟨%f, %hf, Hc⟩
  sl_exec
  sl_step
  iexists _; isplitr
  swap; · iexact Hc
  ipureintro
  intro j hj
  refine (congrFun (View.read_whole (Val := Elt F) cc0_scratch3 _) j).symm.trans ?_
  by_cases h : (j 0).val < 16 * k.val
  · refine (View.read_writes_cons_miss_of_axis _ _ _ _ _ (0 : Fin 1) (16 * k.val) 16 ?_ rfl rfl (.inl h)).trans ?_
    · show k0_off1 k 0 = _
      rw [k0_off1_eq]; rfl
    · exact (congrFun (View.read_whole (Val := Elt F) cc0_scratch3 _) j).trans (hf j h)
  · refine (View.read_writes_cons_hit_of_coords _ _ _ _ _ (show S16.Idx from fun | 0 => ⟨(j 0).val - 16 * k.val, by show _ < 16; omega⟩) _ fun a => ?_).trans rfl
    match a with
    | 0 =>
      show (j 0).val = k0_off1 k 0 + 1 * ((j 0).val - 16 * k.val)
      rw [k0_off1_eq]; show (j 0).val = 16 * k.val + _; omega

/-- Before trip `k` of the second loop the counts are those of the first `16 k` tokens. -/
def countInv (d : Dev nD) (L : grid0.Coords) (l : S9728.Idx → BitVec 32) (k : ℕ) (_ : Unit) : sProp 𝕄 :=
  iprop(((lV).view.loc (V d (cS L) (jS L)) ↦{fullShare} l) ∗ ((cV).view.loc (V d (cS L) (jS L)) ↦{fullShare} bins (F := F) l k))

theorem count_trip (l : S9728.Idx → BitVec 32) (hl : ∀ j, (l j).toNat < 100000) (k : Fin k0_t2_loop.trips) :
    countInv (F := F) d L l k.val ⟨⟩ ⊢ wp frame (wpE (defs₀ (F := F)) 𝒱₀ (V d (cS L) (jS L)) none) Set.univ
      (k0_t2_body L tV (Memref.isWhole_whole _) eV (Memref.isWhole_whole _) bV (Memref.isWhole_whole _) hV (Memref.isWhole_whole _)
        iV (Memref.isWhole_whole _) rV (Memref.isWhole_whole _) lV (Memref.isWhole_whole _) cV (Memref.isWhole_whole _)
        cc0_scratch4 cc0_scoped0 cc0_scoped1 cc0_scoped2 cc0_scoped3 cc0_scoped4 cc0_scoped5 cc0_scoped6 cc0_scoped7 cc0_scoped8 cc0_scoped9 k ⟨⟩)
      fun _ => countInv (F := F) d L l (k.val + 1) ⟨⟩ := by
  unfold k0_t2_body countInv
  have hck : View.readAt (Elt F) (lV).view (Rect.unit (s := S9728) (k0_off3 k) S16.size (k0_off3_inb k)).toLoadRect l = chunk l k.val := by
    funext x
    show l ((Rect.unit (s := S9728) (k0_off3 k) S16.size (k0_off3_inb k)).toLoadRect.idx x) = l _
    congr 1
    funext a
    match a with
    | 0 =>
      apply Fin.ext
      have hx : (x 0).val < 16 := (x 0).isLt
      have hk : k.val < 608 := lt_of_lt_of_le k.isLt k0_t2_abs.2.1
      have ho : k0_off3 k 0 = 16 * k.val := congrFun (k0_off3_eq k) 0
      show k0_off3 k 0 + 1 * (x 0).val = (16 * k.val + (x 0).val) % 9728
      omega
  have hchk : k0_chk1 (chunk l k.val) := fun a x => by
    match a with
    | 0 => exact hl _
  have hchk' : k0_chk1 (View.readAt (Elt F) (lV).view (Rect.unit (s := S9728) (k0_off3 k) S16.size (k0_off3_inb k)).toLoadRect l) := hck ▸ hchk
  iintro ⟨Hl, Hc⟩
  sl_exec
  have hset : ((cV).access (.whole S100000)).set = Finset.univ := Memref.set_access_whole cc0_scratch3
  ihave Hc' := (Entails.of_eq (show ((cV).view.loc (V d (cS L) (jS L)) ↦{fullShare} bins (F := F) l k.val : sProp 𝕄)
      = ((cV).access (.whole S100000)).loc (V d (cS L) (jS L)) ↦[((cV).access (.whole S100000)).set]{fullShare} bins (F := F) l k.val by rw [hset])) $$ Hc
  iapply (SparseCore.wp_vectorStoreIdx 𝒱₀ (V d (cS L) (jS L)) none Set.univ) $$ Hc'
  iintro Hc
  sl_step
  isplitl [Hl]; · iexact Hl
  iapply (Entails.of_eq (show (((cV).access (.whole S100000)).loc (V d (cS L) (jS L)) ↦[((cV).access (.whole S100000)).set]{fullShare}
      ((cV).access (.whole S100000)).write (Elt F) (bins (F := F) l k.val) (storeIdx (((cV).access (.whole S100000)).read (Elt F) (bins (F := F) l k.val))
        ![chunk l k.val] (k0_pay2 (F := F)) (fun _ => 1#1) true hchk) Finset.univ : sProp 𝕄)
      = ((cV).view.loc (V d (cS L) (jS L)) ↦{fullShare} bins (F := F) l (k.val + 1)) by
    rw [hset]
    refine congrArg (fun f => ((cV).view.loc (V d (cS L) (jS L)) ↦{fullShare} f : sProp 𝕄)) ?_
    refine (Memref.write_access_whole_univ (Elt F) cc0_scratch3 _ _).trans ?_
    refine (congrArg (fun f : Vec F S100000 .f32 => storeIdx f ![chunk l k.val] (k0_pay2 (F := F)) (fun _ => 1#1) true (k0_idx1_inb _ hchk))
      (Memref.read_access_whole (Elt F) cc0_scratch3 (bins (F := F) l k.val))).trans ?_
    exact (dif_pos hchk).symm))
  iexact Hc

end Cert.Proof.IdealRun

end
-- ==== Proof.IdealRun.Gather.lean ====
/-
  One gather of a task: 128 rows of the table, named by a list in the task's memory, into the task's row buffer.
-/
module

public import proofs.«01_k».proof.Proof.IdealRun.Loops

@[expose] public section

noncomputable section

namespace Cert.Proof.IdealRun

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tV" => (Memref.whole Cert.KernelIdeal.main_arg0_scv : Memref Cert.KernelIdeal.sig Kind.scVector Space.hbm Cert.KernelIdeal.S327680 EltTy.i32)
local notation "eV" => (Memref.whole Cert.KernelIdeal.main_arg2_scv : Memref Cert.KernelIdeal.sig Kind.scVector Space.hbm Cert.KernelIdeal.S100000x128 EltTy.f32)
local notation "bV" => (Memref.whole Cert.KernelIdeal.main_v0_0_scv : Memref Cert.KernelIdeal.sig Kind.scVector Space.hbm Cert.KernelIdeal.S16384x128 EltTy.f32)
local notation "hV" => (Memref.whole Cert.KernelIdeal.main_v0_1_scv : Memref Cert.KernelIdeal.sig Kind.scVector Space.hbm Cert.KernelIdeal.S32x100000 EltTy.f32)
local notation "iV" => (Memref.whole Cert.KernelIdeal.cc0_scratch0 : Memref Cert.KernelIdeal.sig Kind.scVector Space.vmem Cert.KernelIdeal.S128 EltTy.i32)
local notation "rV" => (Memref.whole Cert.KernelIdeal.cc0_scratch1 : Memref Cert.KernelIdeal.sig Kind.scVector Space.vmem Cert.KernelIdeal.S128x128 EltTy.f32)
local notation "lV" => (Memref.whole Cert.KernelIdeal.cc0_scratch2 : Memref Cert.KernelIdeal.sig Kind.scVector Space.vmem Cert.KernelIdeal.S9728 EltTy.i32)
local notation "cV" => (Memref.whole Cert.KernelIdeal.cc0_scratch3 : Memref Cert.KernelIdeal.sig Kind.scVector Space.vmem Cert.KernelIdeal.S100000 EltTy.f32)

variable [FloatOps F] [Named F]
variable (m : (ℓ : Loc nD τ sig) → Buf (Elt F) ℓ) (d : Dev nD) (L : grid0.Coords)

/-- The rows a list of 128 names, in its order. -/
def rowsF (e : S100000x128.Idx → F .f32) (l : S128.Idx → BitVec 32) : S128x128.Idx → F .f32 :=
  fun x => e (embIx (l fun | 0 => x 0).toNat (x 1))

/-- What the gather has in flight. -/
def GFlight (d : Dev nD) (L : grid0.Coords) (q : PosShare TreeShare) (fe : Buf (Elt F) (eLoc d)) (fr : S128x128.Idx → F .f32) (fl : S128.Idx → BitVec 32) : sProp 𝕄 :=
  Transfers.Flight (Val := Elt F) countersEmb (V d (cS L) (jS L)) (.dma cc0_scratch4.sem) (default : HIx 1) (rV).view.dmaCredit
    iprop(((rV).view.loc (V d (cS L) (jS L)) ↦[(rV).view.set]{fullShare} rowsF fe fl)
      ∗ ((eAll).view.loc (V d (cS L) (jS L)) ↦[(eAll).view.set]{q} fe) ∗ ((iV).view.loc (V d (cS L) (jS L)) ↦[(iV).view.set]{fullShare} fl))

theorem zeros_eq : (![0, 0] : Fin 2 → ℕ) = fun _ => 0 := by decide

theorem eAll_set : (eAll).view.set = Finset.univ := by
  have h : ∀ (off : Fin 2 → ℕ) (_ : off = fun _ => 0) (inb : ∀ a, off a + S100000x128.size a ≤ S100000x128.size a),
      ((eV).access (Rect.unit (s := S100000x128) off S100000x128.size inb)).set = Finset.univ := by
    intro off h inb; subst h; exact Memref.set_access_whole main_arg2_scv
  exact h ![0, 0] zeros_eq _

theorem eAll_read (fe : S100000x128.Idx → F .f32) : (eAll).view.read (Elt F) fe = fe :=
  Memref.read_access_unit_zero (Elt F) main_arg2_scv zeros_eq inb_S100000x128_S100000x128_0_0 fe

theorem payload_eq (fe : S100000x128.Idx → F .f32) (fl : S128.Idx → BitVec 32) (hl : ∀ j, (fl j).toNat < 100000)
    (hn : S128.numel = S128x128.size gathers_S100000x128_S128x128.axis') (hin : ∀ x, ((iV).view.read (Elt F) fl x).toNat < S100000x128.size gathers_S100000x128_S128x128.axis) :
    (SparseCore.gatherPayload (e := .f32) (F := F) gathers_S100000x128_S128x128 ((eAll).view.read (Elt F) fe) (SparseCore.rows ((iV).view.read (Elt F) fl) hn hin))
      = rowsF fe fl := by
  rw [eAll_read]
  funext x
  unfold SparseCore.gatherPayload SparseCore.rows rowsF
  congr 1
  funext a
  match a with
  | 0 =>
    apply Fin.ext
    have hx : S128.rowMajor.symm ((x 0).cast hn.symm) = fun | 0 => x 0 := by
      rw [Equiv.symm_apply_eq]
      exact Fin.ext (Shape.rowMajor_val_one (d := ![128]) (show S128.Idx from fun | 0 => x 0)).symm
    refine (congrArg Fin.val (Shape.Gathers.idx_axis gathers_S100000x128_S128x128 _ x)).trans ?_
    show (fl (S128.rowMajor.symm ((x 0).cast hn.symm))).toNat = (fl _).toNat % 100000
    rw [hx, Nat.mod_eq_of_lt (hl _)]
  | 1 => rfl

/-- Starting the gather. -/
theorem gather_start {α : Type} {Q : α → sProp 𝕄} (q : PosShare TreeShare) (fe : Buf (Elt F) (eLoc d)) (fr : S128x128.Idx → F .f32) (fl : S128.Idx → BitVec 32)
    (hl : ∀ j, (fl j).toNat < 100000) (k : PUnit → Prog (TpuEff nD τ sig (Elt F) Λ₀ (.scVector (cS L) (jS L))) α) :
    iprop(((eV).view.loc (V d (cS L) (jS L)) ↦{q} fe) ∗ ((rV).view.loc (V d (cS L) (jS L)) ↦{fullShare} fr)
        ∗ ((iV).view.loc (V d (cS L) (jS L)) ↦{fullShare} fl) ∗ semVal (V d (cS L) (jS L), SemLoc.dma cc0_scratch4.sem) 0)
      ⊢ iprop((GFlight d L q fe fr fl -∗ wp frame (wpE (defs₀ (F := F)) 𝒱₀ (V d (cS L) (jS L)) none) Set.univ (k ⟨⟩) Q)
          -∗ wp frame (wpE (defs₀ (F := F)) 𝒱₀ (V d (cS L) (jS L)) none) Set.univ
            (SparseCore.enqueueIndirectGather rfl eAll rV gathers_S100000x128_S128x128 iV rfl cc0_scratch4.sem (View.wordExact_bits rfl) rfl (Or.inl rfl) >>= k) Q) := by
  have hrs : (rV).view.set = Finset.univ := View.set_whole _
  have his : (iV).view.set = Finset.univ := View.set_whole _
  have hN : ∑ j, ((rV).slice (S128x128.rowRect gathers_S100000x128_S128x128.axis' j) (S128x128.stride_rowRect gathers_S100000x128_S128x128.axis' j)).view.dmaCredit
      = (rV).view.dmaCredit := by decide +kernel
  have hin : ∀ x, ((iV).view.read (Elt F) fl x).toNat < S100000x128.size gathers_S100000x128_S128x128.axis := hl
  iintro ⟨He, Hr, Hi, Hs⟩ Hk
  iapply (SparseCore.wp_indirectGatherLocal countersEmb 𝒱₀ (V d (cS L) (jS L)) none (hg := gathers_S100000x128_S128x128) (default : HIx 1)
      (rV).view.dmaCredit hN (by decide) hin (q := q) (fs := fe) (fd := fr) (fo := fl) (qo := fullShare)) $$ [He Hr Hi Hs]
  · rw [hrs, his, eAll_set]
    isplitl [He]; · iexact He
    isplitl [Hr]; · iexact Hr
    isplitl [Hi]; · iexact Hi
    iexact Hs
  iintro Hf
  iapply Hk
  unfold GFlight
  have hpay : (rV).view.write (Elt F) fr (SparseCore.gatherPayload (e := .f32) (F := F) gathers_S100000x128_S128x128 ((eAll).view.read (Elt F) fe)
      (SparseCore.rows ((iV).view.read (Elt F) fl) rfl hin)) Finset.univ = rowsF fe fl :=
    (View.write_whole_univ cc0_scratch1 _ _).trans (payload_eq fe fl hl rfl hin)
  iapply (Entails.of_eq (congrArg (fun g : S128x128.Idx → F .f32 => (Transfers.Flight (Val := Elt F) countersEmb (V d (cS L) (jS L)) (.dma cc0_scratch4.sem) (default : HIx 1) (rV).view.dmaCredit
    iprop(((rV).view.loc (V d (cS L) (jS L)) ↦[(rV).view.set]{fullShare} g)
      ∗ ((eAll).view.loc (V d (cS L) (jS L)) ↦[(eAll).view.set]{q} fe) ∗ ((iV).view.loc (V d (cS L) (jS L)) ↦[(iV).view.set]{fullShare} fl)) : sProp 𝕄)) hpay))
  iexact Hf

/-- Waiting for it. -/
theorem gather_wait {α : Type} {Q : α → sProp 𝕄} (q : PosShare TreeShare) (fe : Buf (Elt F) (eLoc d)) (fr : S128x128.Idx → F .f32) (fl : S128.Idx → BitVec 32)
    (O : CellTallies nD τ sig (HIx 1)) (W : Waits sig (HIx 1)) (k : PUnit → Prog (TpuEff nD τ sig (Elt F) Λ₀ (.scVector (cS L) (jS L))) α) :
    iprop(GFlight d L q fe fr fl ∗ owes (V d (cS L) (jS L)) O W ∗ Transfers.MayWaits (V d (cS L) (jS L)) (default : HIx 1) O)
      ⊢ iprop(((((rV).view.loc (V d (cS L) (jS L)) ↦{fullShare} rowsF fe fl) ∗ ((eV).view.loc (V d (cS L) (jS L)) ↦{q} fe)
            ∗ ((iV).view.loc (V d (cS L) (jS L)) ↦{fullShare} fl)) ∗ semVal (V d (cS L) (jS L), SemLoc.dma cc0_scratch4.sem) 0
            ∗ owes (V d (cS L) (jS L)) O (insert (SemLoc.dma cc0_scratch4.sem, (default : HIx 1)) W)
          -∗ wp frame (wpE (defs₀ (F := F)) 𝒱₀ (V d (cS L) (jS L)) none) Set.univ (k ⟨⟩) Q)
          -∗ wp frame (wpE (defs₀ (F := F)) 𝒱₀ (V d (cS L) (jS L)) none) Set.univ
            (SparseCore.waitIndirectGather cc0_scratch4.sem eAll rV (View.wordExact_bits rfl) (Memref.isWhole_whole _).wordExact >>= k) Q) := by
  have hrs : (rV).view.set = Finset.univ := View.set_whole _
  have his : (iV).view.set = Finset.univ := View.set_whole _
  unfold GFlight
  rw [hrs, his, eAll_set]
  iintro ⟨Hf, HO, Hmw⟩ Hk
  iapply (Transfers.wp_waitLocalO countersEmb 𝒱₀ (V d (cS L) (jS L)) none (default : HIx 1) (rfl : (rV).view.dmaCredit = _)) $$ [Hf HO Hmw]
  · isplitl [Hf]; · iexact Hf
    isplitl [HO]; · iexact HO
    iapply (Transfers.MayWaits.elim (SemLoc.dma cc0_scratch4.sem)) $$ Hmw
  iintro ⟨⟨Hr, He, Hi⟩, Hs, HO⟩
  iapply Hk
  isplitl [Hr He Hi]
  · isplitl [Hr]; · iexact Hr
    isplitl [He]; · iexact He
    iexact Hi
  isplitl [Hs]; · iexact Hs
  iexact HO

end Cert.Proof.IdealRun

end
-- ==== Proof.IdealRun.TileBody.lean ====
/-
  One task from start to end: from its shares and its pieces of the results to the pieces at their values.
-/
module

public import proofs.«01_k».proof.Proof.IdealRun.Gather

@[expose] public section

noncomputable section

namespace Cert.Proof.IdealRun

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tV" => (Memref.whole Cert.KernelIdeal.main_arg0_scv : Memref Cert.KernelIdeal.sig Kind.scVector Space.hbm Cert.KernelIdeal.S327680 EltTy.i32)
local notation "eV" => (Memref.whole Cert.KernelIdeal.main_arg2_scv : Memref Cert.KernelIdeal.sig Kind.scVector Space.hbm Cert.KernelIdeal.S100000x128 EltTy.f32)
local notation "bV" => (Memref.whole Cert.KernelIdeal.main_v0_0_scv : Memref Cert.KernelIdeal.sig Kind.scVector Space.hbm Cert.KernelIdeal.S16384x128 EltTy.f32)
local notation "hV" => (Memref.whole Cert.KernelIdeal.main_v0_1_scv : Memref Cert.KernelIdeal.sig Kind.scVector Space.hbm Cert.KernelIdeal.S32x100000 EltTy.f32)
local notation "iV" => (Memref.whole Cert.KernelIdeal.cc0_scratch0 : Memref Cert.KernelIdeal.sig Kind.scVector Space.vmem Cert.KernelIdeal.S128 EltTy.i32)
local notation "rV" => (Memref.whole Cert.KernelIdeal.cc0_scratch1 : Memref Cert.KernelIdeal.sig Kind.scVector Space.vmem Cert.KernelIdeal.S128x128 EltTy.f32)
local notation "lV" => (Memref.whole Cert.KernelIdeal.cc0_scratch2 : Memref Cert.KernelIdeal.sig Kind.scVector Space.vmem Cert.KernelIdeal.S9728 EltTy.i32)
local notation "cV" => (Memref.whole Cert.KernelIdeal.cc0_scratch3 : Memref Cert.KernelIdeal.sig Kind.scVector Space.vmem Cert.KernelIdeal.S100000 EltTy.f32)

variable [FloatOps F] [Named F]
variable (m : (ℓ : Loc nD τ sig) → Buf (Elt F) ℓ) (d : Dev nD) (L : grid0.Coords)

/-- The 128 tokens of list `r`. -/
def toks (txt : S327680.Idx → BitVec 32) (L : grid0.Coords) (r : Fin 4) : S128.Idx → BitVec 32 :=
  fun k => txt (tokIx (1024 * (L 1).val + 512 * (L 0).val + 128 * r.val + (k 0).val))

theorem t1_trips : k0_t1_loop.trips = 6250 := by decide
theorem t2_trips : k0_t2_loop.trips = 608 := by decide

/-- The tokens the counting loop reads, as the copy lands them. -/
theorem lst_read (txt : S327680.Idx → BitVec 32) :
    ((tV).slice (Rect.unit (s := S327680) (k0_off2 L) S9728.size (k0_off2_inb L)) (fun _ => rfl)).view.read (Elt F) txt = lst txt (wid L).val := by
  funext x
  show txt ((Rect.unit (s := S327680) (k0_off2 L) S9728.size (k0_off2_inb L)).emb x) = txt _
  congr 1
  funext a
  match a with
  | 0 =>
    apply Fin.ext
    have h0 : (L 0).val < 2 := (L 0).isLt
    have h1 : (L 1).val < 16 := (L 1).isLt
    have hx : (x 0).val < 9728 := (x 0).isLt
    have ho : k0_off2 L 0 = 19456 * (L 1).val + 9728 * (L 0).val + 16384 := congrFun (k0_off2_eq L) 0
    show k0_off2 L 0 + 1 * (x 0).val = (9728 * (2 * (L 1).val + (L 0).val) + 16384 + (x 0).val) % 327680
    omega

/-- The tokens of list `r`, as the copy lands them. -/
theorem toks_read (txt : S327680.Idx → BitVec 32) (r : Fin 4) : (tK L r).view.read (Elt F) txt = toks txt L r := by
  funext x
  show txt ((Rect.unit (s := S327680) (k0_off5 L (BitVec.ofNat 32 (128 * r.val))) S128.size (k0_off5_inb L r)).emb x) = txt _
  congr 1
  funext a
  match a with
  | 0 =>
    apply Fin.ext
    have h0 : (L 0).val < 2 := (L 0).isLt
    have h1 : (L 1).val < 16 := (L 1).isLt
    have hx : (x 0).val < 128 := (x 0).isLt
    have ho : k0_off5 L (BitVec.ofNat 32 (128 * r.val)) 0 = 1024 * (L 1).val + 512 * (L 0).val + 128 * r.val := congrFun (k0_off5_eq L r) 0
    show k0_off5 L (BitVec.ofNat 32 (128 * r.val)) 0 + 1 * (x 0).val = (1024 * (L 1).val + 512 * (L 0).val + 128 * r.val + (x 0).val) % 327680
    omega

/-- Elements written through a view hold any contents that read back as what was written. -/
theorem pts_write {c : Thread nD τ} {sp : Space} {s : Shape} {e : EltTy} (v : View sig c.2.kind sp s e) (q : PosShare TreeShare)
    (f g : Buf (Elt F) (v.loc c)) (w : s.Idx → Elt F e) (h : v.read (Elt F) g = w) :
    (v.loc c ↦[v.set]{q} v.write (Elt F) f w Finset.univ : sProp 𝕄) = v.loc c ↦[v.set]{q} g :=
  pointsTo_congr fun i hi => by
    obtain ⟨x, -, rfl⟩ := Finset.mem_map.mp hi
    subst h
    rw [View.write_emb_of_mem _ _ (Finset.mem_univ _)]
    simp [View.read]

/-- The block of the gathered rows that list `r` fills. -/
theorem base_piece (txt : S327680.Idx → BitVec 32) (e : S100000x128.Idx → F .f32) (r : Fin 4) (f : Buf (Elt F) (bLoc d)) :
    ((bK L r).view.loc (V d (cS L) (jS L)) ↦[(bK L r).view.set]{fullShare} (bK L r).view.write (Elt F) f (rowsF e (toks txt L r)) Finset.univ : sProp 𝕄)
      = bLoc d ↦[(bRect (blk (wid L) r)).set]{fullShare} baseF txt e := by
  refine (pts_write (c := V d (cS L) (jS L)) (bK L r).view fullShare f _ _ (funext fun x => ?_)).trans (pts_bK (F := F) d L r _)
  have h0 : (L 0).val < 2 := (L 0).isLt
  have h1 : (L 1).val < 16 := (L 1).isLt
  have hr : r.val < 4 := r.isLt
  have hx : (x 0).val < 128 := (x 0).isLt
  have hi0 : ((bK L r).view.emb x 0).val = 1024 * (L 1).val + 512 * (L 0).val + 128 * r.val + (x 0).val := by
    have ho : k0_off6 L (BitVec.ofNat 32 (128 * r.val)) 0 = 1024 * (L 1).val + 512 * (L 0).val + 128 * r.val := congrFun (k0_off6_eq L r) 0
    show k0_off6 L (BitVec.ofNat 32 (128 * r.val)) 0 + 1 * (x 0).val = _
    omega
  have hi1 : (bK L r).view.emb x 1 = x 1 := Fin.ext (by
    have ho : k0_off6 L (BitVec.ofNat 32 (128 * r.val)) 1 = 0 := congrFun (k0_off6_eq L r) 1
    show k0_off6 L (BitVec.ofNat 32 (128 * r.val)) 1 + 1 * (x 1).val = _
    omega)
  show baseF txt e ((bK L r).view.emb x) = rowsF e (toks txt L r) x
  unfold baseF rowsF toks
  rw [hi0, hi1]

/-- The row of the counts that the task fills. -/
theorem hist_piece (txt : S327680.Idx → BitVec 32) (f : Buf (Elt F) (hLoc d)) :
    ((hK L).view.loc (V d (cS L) (jS L)) ↦[(hK L).view.set]{fullShare} (hK L).view.write (Elt F) f (bins (F := F) (lst txt (wid L).val) 608) Finset.univ : sProp 𝕄)
      = hLoc d ↦[(hRect (wid L)).set]{fullShare} histF (F := F) txt := by
  refine (pts_write (c := V d (cS L) (jS L)) (hK L).view fullShare f _ _ (funext fun x => ?_)).trans (pts_hK (F := F) d L _)
  have hx : (x 0).val < 100000 := (x 0).isLt
  have hre : Shape.reshapeEquiv squeezes_S1x100000_S100000.numel_eq x = (fun | 0 => (0 : Fin 1) | 1 => x 0 : S1x100000.Idx) := by
    refine Shape.reshapeEquiv_eq_of_rowMajor _ ?_
    rw [Shape.rowMajor_val_two, Shape.rowMajor_val_one]
    show 0 * 100000 + (x 0).val = (x 0).val
    omega
  have hi0 : (hK L).view.emb x 0 = wid L := Fin.ext (by
    have ho : k0_off4 L 0 = 2 * (L 1).val + (L 0).val := congrFun (k0_off4_eq L) 0
    show k0_off4 L 0 + 1 * (Shape.reshapeEquiv squeezes_S1x100000_S100000.numel_eq x 0).val = 2 * (L 1).val + (L 0).val
    rw [hre, ho]; simp)
  have hi1 : (hK L).view.emb x 1 = x 0 := Fin.ext (by
    have ho : k0_off4 L 1 = 0 := congrFun (k0_off4_eq L) 1
    show k0_off4 L 1 + 1 * (Shape.reshapeEquiv squeezes_S1x100000_S100000.numel_eq x 1).val = (x 0).val
    rw [hre, ho]; simp)
  show histF (F := F) txt ((hK L).view.emb x) = bins (F := F) (lst txt (wid L).val) 608 x
  unfold histF
  rw [hi0, hi1]
  congr 1
  funext a
  match a with
  | 0 => rfl

/-- The same two, after a copy that overwrites the whole piece. -/
theorem base_done (txt : S327680.Idx → BitVec 32) (e : S100000x128.Idx → F .f32) (r : Fin 4) (f : Buf (Elt F) (bLoc d))
    (o : BitVec 32) (ho : o = BitVec.ofNat 32 (128 * r.val)) (inb : ∀ a, k0_off6 L o a + S128x128.size a ≤ S16384x128.size a)
    (w : (Rect.unit (s := S16384x128) (k0_off6 L o) S128x128.size inb).shape.Idx → F .f32) (hw : w = rowsF e (toks txt L r)) :
    (((bV).slice (Rect.unit (s := S16384x128) (k0_off6 L o) S128x128.size inb) (fun _ => rfl)).view.loc (V d (cS L) (jS L)) ↦[((bV).slice (Rect.unit (s := S16384x128) (k0_off6 L o) S128x128.size inb) (fun _ => rfl)).view.set]{fullShare}
        ((bV).slice (Rect.unit (s := S16384x128) (k0_off6 L o) S128x128.size inb) (fun _ => rfl)).view.writes (Elt F) f [⟨Rect.whole (Rect.unit (s := S16384x128) (k0_off6 L o) S128x128.size inb).shape, w⟩] : sProp 𝕄)
      ⊢ bLoc d ↦[(bRect (blk (wid L) r)).set]{fullShare} baseF txt e := by
  subst ho
  subst hw
  exact Entails.of_eq (Eq.trans (congrArg (fun g => ((bK L r).view.loc (V d (cS L) (jS L)) ↦[(bK L r).view.set]{fullShare} g : sProp 𝕄))
    (View.write_univ_eq_writes_whole (bK L r).view f [] _).symm) (base_piece d L txt e r f))
theorem hist_done (txt : S327680.Idx → BitVec 32) (f : Buf (Elt F) (hLoc d)) (w : S100000.Idx → F .f32) (hw : w = bins (F := F) (lst txt (wid L).val) 608) :
    ((hK L).view.loc (V d (cS L) (jS L)) ↦[(hK L).view.set]{fullShare} (hK L).view.writes (Elt F) f [⟨Rect.whole S100000, w⟩] : sProp 𝕄)
      ⊢ hLoc d ↦[(hRect (wid L)).set]{fullShare} histF (F := F) txt := by
  subst hw
  exact Entails.of_eq (Eq.trans (congrArg (fun g => ((hK L).view.loc (V d (cS L) (jS L)) ↦[(hK L).view.set]{fullShare} g : sProp 𝕄))
    (View.write_univ_eq_writes_whole (hK L).view f [] _).symm) (hist_piece d L txt f))

/-- The wait for a gather, at the end of a sequence. -/
theorem gather_wait' {Q : PUnit → sProp 𝕄} (q : PosShare TreeShare) (fe : Buf (Elt F) (eLoc d)) (fr : S128x128.Idx → F .f32) (fl : S128.Idx → BitVec 32)
    (O : CellTallies nD τ sig (HIx 1)) (W : Waits sig (HIx 1)) :
    iprop(GFlight d L q fe fr fl ∗ owes (V d (cS L) (jS L)) O W ∗ Transfers.MayWaits (V d (cS L) (jS L)) (default : HIx 1) O)
      ⊢ iprop(((((rV).view.loc (V d (cS L) (jS L)) ↦{fullShare} rowsF fe fl) ∗ ((eV).view.loc (V d (cS L) (jS L)) ↦{q} fe)
            ∗ ((iV).view.loc (V d (cS L) (jS L)) ↦{fullShare} fl)) ∗ semVal (V d (cS L) (jS L), SemLoc.dma cc0_scratch4.sem) 0
            ∗ owes (V d (cS L) (jS L)) O (insert (SemLoc.dma cc0_scratch4.sem, (default : HIx 1)) W)
          -∗ Q ⟨⟩)
          -∗ wp frame (wpE (defs₀ (F := F)) 𝒱₀ (V d (cS L) (jS L)) none) Set.univ
            (Prog.op (TpuEff.waitDma2 cc0_scratch4.sem eAll rV (View.wordExact_bits rfl) (Memref.isWhole_whole _).wordExact) fun _ => Prog.ret PUnit.unit) Q) := by
  iintro H Hk
  iapply (gather_wait d L q fe fr fl O W (fun _ => Prog.ret PUnit.unit) (Q := Q)) $$ H
  iintro H
  rw [wp_ret]
  imodintro
  iapply Hk $$ H

set_option maxHeartbeats 4000000 in
theorem tile_body (hF : (K (F := F)).Facts) (hpre : PreOK m) (O : CellTallies nD τ sig (HIx 1)) (W : Waits sig (HIx 1)) (hO : ∀ g, O g none = 0) :
    iprop(levAts (K (F := F)).L (K (F := F)).lev ∗ emp ∗ tileRes m d (wid L) (m (bLoc d)) (m (hLoc d))
        ∗ scopedBufs (V d (cS L) (jS L)) ∗ scopedSems0 (V d (cS L) (jS L)) ∗ owes (V d (cS L) (jS L)) O W)
      ⊢ wp frame (wpE (defs₀ (F := F)) 𝒱₀ (V d (cS L) (jS L)) none) Set.univ
          (cc0__sc_body L tV (Memref.isWhole_whole _) eV (Memref.isWhole_whole _) bV (Memref.isWhole_whole _) hV (Memref.isWhole_whole _)
            iV (Memref.isWhole_whole _) rV (Memref.isWhole_whole _) lV (Memref.isWhole_whole _) cV (Memref.isWhole_whole _)
            cc0_scratch4 cc0_scoped0 cc0_scoped1 cc0_scoped2 cc0_scoped3 cc0_scoped4 cc0_scoped5 cc0_scoped6 cc0_scoped7 cc0_scoped8 cc0_scoped9)
          fun _ => iprop(tileRes m d (wid L) (baseF (m (tLoc d)) (m (eLoc d))) (histF (F := F) (m (tLoc d)))
            ∗ scopedBufs (V d (cS L) (jS L)) ∗ scopedSems0 (V d (cS L) (jS L))
            ∗ ∃ W', ⌜∀ p ∈ W', p ∈ W ∨ p.2 = none⌝ ∗ owes (V d (cS L) (jS L)) O W') := by
  rw [cc0__sc_body_eq_skeleton]; unfold cc0__sc_body_skel
  rw [wp_bind, k0_part1_eq_skeleton]; unfold k0_part1_skel
  rw [(K (F := F)).scopedBufs_V hF d (cS L) (jS L), SparseCore.Cfg.scopedSems0_V (Val := Elt F) d (cS L) (jS L), ownSems0_K, ownBufs_K]
  unfold tileRes
  iintro ⟨#Hlv, -, ⟨Ht, He, Hb0, Hb1, Hb2, Hb3, Hh⟩, ⟨⟨%fi, Hi⟩, ⟨%fr, Hr⟩, ⟨%fl, Hl⟩, ⟨%fc, Hc⟩, Hbufs⟩,
    ⟨⟨Hs0, Hs1, Hs2, Hs3, Hs4, Hs5, Hs6, Hs7, Hs8, Hs9, Hs10⟩, Hsems⟩, HO⟩
  ihave Hmw := (show levAts (K (F := F)).L (K (F := F)).lev ⊢ Transfers.MayWaits (V d (cS L) (jS L)) (default : HIx 1) O from
    (K (F := F)).mayWaits_none (thr := V d (cS L) (jS L)) hO) $$ Hlv
  ihave Ht' := (Entails.of_eq (pts_tV (F := F) d L _ _).symm) $$ Ht
  ihave He' := (Entails.of_eq (pts_eV (F := F) d L _ _).symm) $$ He
  ihave Hb0' := (Entails.of_eq (pts_bK (F := F) d L 0 _).symm) $$ Hb0
  ihave Hb1' := (Entails.of_eq (pts_bK (F := F) d L 1 _).symm) $$ Hb1
  ihave Hb2' := (Entails.of_eq (pts_bK (F := F) d L 2 _).symm) $$ Hb2
  ihave Hb3' := (Entails.of_eq (pts_bK (F := F) d L 3 _).symm) $$ Hb3
  ihave Hh' := (Entails.of_eq (pts_hK (F := F) d L _).symm) $$ Hh
  ihave Hi' := (Entails.of_eq (pts_iV (F := F) d L _).symm) $$ Hi
  ihave Hr' := (Entails.of_eq (pts_rV (F := F) d L _).symm) $$ Hr
  ihave Hl' := (Entails.of_eq (pts_lV (F := F) d L _).symm) $$ Hl
  ihave Hc' := (Entails.of_eq (pts_cV (F := F) d L _).symm) $$ Hc
  sl_exec
  sl_for (zeroInv (F := F) d L) $$ [Hc']
  case region =>
    intro k _
    exact zero_trip d L k
  · unfold zeroInv
    iexists fc; isplitr
    · ipureintro; intro j hj; exact absurd hj (by omega)
    · iexact Hc'
  iintro %_ HI
  unfold zeroInv
  icases HI with ⟨%fz, %hz, Hc'⟩
  have hzero : fz = bins (F := F) (lst (m (tLoc d)) (wid L).val) 0 := funext fun j => by
    have hj : (j 0).val < 100000 := (j 0).isLt
    exact (hz j (by show _ < 16 * k0_t1_loop.trips; rw [t1_trips]; omega)).trans rfl
  subst hzero
  sl_exec
  have hl1 : View.write (Elt F) (lV).view fl (tile_body.sl.dma0 m d L) Finset.univ
      = lst (m (tLoc d)) (wid L).val := (View.write_whole_univ _ _ _).trans (lst_read L _)
  ihave Hl2 := (show _ ⊢ ((lV).view.loc (V d (cS L) (jS L)) ↦{fullShare} lst (m (tLoc d)) (wid L).val : sProp 𝕄) from
    Entails.of_eq (congrArg (fun g => ((lV).view.loc (V d (cS L) (jS L)) ↦{fullShare} g : sProp 𝕄)) hl1)) $$ Hl'
  sl_for (countInv (F := F) d L (lst (m (tLoc d)) (wid L).val)) $$ [Hc' Hl2]
  case region =>
    intro k _
    exact count_trip d L _ (fun j => hpre d _) k
  · unfold countInv
    isplitl [Hl2]; · iexact Hl2
    iexact Hc'
  iintro %_ HI
  unfold countInv
  icases HI with ⟨Hl', Hc'⟩
  ihave Hc2 := (show ((cV).view.loc (V d (cS L) (jS L)) ↦{fullShare} bins (F := F) (lst (m (tLoc d)) (wid L).val) k0_t2_loop.trips : sProp 𝕄)
    ⊢ ((cV).view.loc (V d (cS L) (jS L)) ↦{fullShare} bins (F := F) (lst (m (tLoc d)) (wid L).val) 608) from Entails.of_eq (by rw [t2_trips])) $$ Hc'
  ihave Hb0'' := (show _ ⊢ (((bV).slice (Rect.unit (s := S16384x128) (k0_off6 L 0#32) S128x128.size (k0_off6_inb L 0)) (fun _ => rfl)).view.loc (V d (cS L) (jS L)) ↦[((bV).slice (Rect.unit (s := S16384x128) (k0_off6 L 0#32) S128x128.size (k0_off6_inb L 0)) (fun _ => rfl)).view.set]{fullShare} m (bLoc d) : sProp 𝕄) from Entails.of_eq rfl) $$ Hb0'
  sl_exec
  have hi1 : View.write (Elt F) (iV).view fi (tile_body.sl.dma0_2 m d L) Finset.univ = toks (m (tLoc d)) L 0 :=
    (View.write_whole_univ _ _ _).trans (toks_read L _ 0)
  ihave Hi2 := (Entails.of_eq (congrArg (fun g => ((iV).view.loc (V d (cS L) (jS L)) ↦{fullShare} g : sProp 𝕄)) hi1)) $$ Hi'
  iapply (gather_start d L (cut 31 fullShare (wid L)) (m (eLoc d)) fr (toks (m (tLoc d)) L 0) (fun j => hpre d _) _) $$ [He' Hr' Hi2 Hs0]
  · isplitl [He']; · iexact He'
    isplitl [Hr']; · iexact Hr'
    isplitl [Hi2]; · iexact Hi2
    iexact Hs0
  iintro HG
  rw [wp_pure]
  imodintro
  rw [wp_bind, k0_part2_eq_skeleton]; unfold k0_part2_skel
  sl_exec
  iapply (gather_wait' d L (cut 31 fullShare (wid L)) (m (eLoc d)) fr (toks (m (tLoc d)) L 0) O _) $$ [HG HO]
  · isplitl [HG]; · iexact HG
    isplitl [HO]; · iexact HO
    iexact Hmw
  iintro ⟨⟨Hr', He', Hi'⟩, Hs0, HO⟩
  beta_reduce
  sl_exec
  have hi2 : View.write (Elt F) (iV).view (toks (m (tLoc d)) L 0) (tile_body.sl.dma0_4 m d L) Finset.univ = toks (m (tLoc d)) L 1 :=
    (View.write_whole_univ _ _ _).trans (toks_read L _ 1)
  ihave Hi2 := (Entails.of_eq (congrArg (fun g => ((iV).view.loc (V d (cS L) (jS L)) ↦{fullShare} g : sProp 𝕄)) hi2)) $$ Hi'
  iapply (gather_start d L (cut 31 fullShare (wid L)) (m (eLoc d)) (rowsF (m (eLoc d)) (toks (m (tLoc d)) L 0)) (toks (m (tLoc d)) L 1) (fun j => hpre d _) _) $$ [He' Hr' Hi2 Hs0]
  · isplitl [He']; · iexact He'
    isplitl [Hr']; · iexact Hr'
    isplitl [Hi2]; · iexact Hi2
    iexact Hs0
  iintro HG
  ihave Hb1'' := (show _ ⊢ (((bV).slice (Rect.unit (s := S16384x128) (k0_off6 L 128#32) S128x128.size (k0_off6_inb L 1)) (fun _ => rfl)).view.loc (V d (cS L) (jS L)) ↦[((bV).slice (Rect.unit (s := S16384x128) (k0_off6 L 128#32) S128x128.size (k0_off6_inb L 1)) (fun _ => rfl)).view.set]{fullShare} m (bLoc d) : sProp 𝕄) from Entails.of_eq rfl) $$ Hb1'
  sl_exec
  iapply (gather_wait' d L (cut 31 fullShare (wid L)) (m (eLoc d)) (rowsF (m (eLoc d)) (toks (m (tLoc d)) L 0)) (toks (m (tLoc d)) L 1) O _) $$ [HG HO]
  · isplitl [HG]; · iexact HG
    isplitl [HO]; · iexact HO
    iexact Hmw
  iintro ⟨⟨Hr', He', Hi'⟩, Hs0, HO⟩
  beta_reduce
  sl_exec
  have hi3 : View.write (Elt F) (iV).view (toks (m (tLoc d)) L 1) (tile_body.sl.dma0_6 m d L) Finset.univ = toks (m (tLoc d)) L 2 :=
    (View.write_whole_univ _ _ _).trans (toks_read L _ 2)
  ihave Hi2 := (Entails.of_eq (congrArg (fun g => ((iV).view.loc (V d (cS L) (jS L)) ↦{fullShare} g : sProp 𝕄)) hi3)) $$ Hi'
  iapply (gather_start d L (cut 31 fullShare (wid L)) (m (eLoc d)) (rowsF (m (eLoc d)) (toks (m (tLoc d)) L 1)) (toks (m (tLoc d)) L 2) (fun j => hpre d _) _) $$ [He' Hr' Hi2 Hs0]
  · isplitl [He']; · iexact He'
    isplitl [Hr']; · iexact Hr'
    isplitl [Hi2]; · iexact Hi2
    iexact Hs0
  iintro HG
  ihave Hb2'' := (show _ ⊢ (((bV).slice (Rect.unit (s := S16384x128) (k0_off6 L 256#32) S128x128.size (k0_off6_inb L 2)) (fun _ => rfl)).view.loc (V d (cS L) (jS L)) ↦[((bV).slice (Rect.unit (s := S16384x128) (k0_off6 L 256#32) S128x128.size (k0_off6_inb L 2)) (fun _ => rfl)).view.set]{fullShare} m (bLoc d) : sProp 𝕄) from Entails.of_eq rfl) $$ Hb2'
  sl_exec
  iapply (gather_wait' d L (cut 31 fullShare (wid L)) (m (eLoc d)) (rowsF (m (eLoc d)) (toks (m (tLoc d)) L 1)) (toks (m (tLoc d)) L 2) O _) $$ [HG HO]
  · isplitl [HG]; · iexact HG
    isplitl [HO]; · iexact HO
    iexact Hmw
  iintro ⟨⟨Hr', He', Hi'⟩, Hs0, HO⟩
  beta_reduce
  sl_exec
  have hi4 : View.write (Elt F) (iV).view (toks (m (tLoc d)) L 2) (tile_body.sl.dma0_8 m d L) Finset.univ = toks (m (tLoc d)) L 3 :=
    (View.write_whole_univ _ _ _).trans (toks_read L _ 3)
  ihave Hi2 := (Entails.of_eq (congrArg (fun g => ((iV).view.loc (V d (cS L) (jS L)) ↦{fullShare} g : sProp 𝕄)) hi4)) $$ Hi'
  iapply (gather_start d L (cut 31 fullShare (wid L)) (m (eLoc d)) (rowsF (m (eLoc d)) (toks (m (tLoc d)) L 2)) (toks (m (tLoc d)) L 3) (fun j => hpre d _) _) $$ [He' Hr' Hi2 Hs0]
  · isplitl [He']; · iexact He'
    isplitl [Hr']; · iexact Hr'
    isplitl [Hi2]; · iexact Hi2
    iexact Hs0
  iintro HG
  ihave Hb3'' := (show _ ⊢ (((bV).slice (Rect.unit (s := S16384x128) (k0_off6 L 384#32) S128x128.size (k0_off6_inb L 3)) (fun _ => rfl)).view.loc (V d (cS L) (jS L)) ↦[((bV).slice (Rect.unit (s := S16384x128) (k0_off6 L 384#32) S128x128.size (k0_off6_inb L 3)) (fun _ => rfl)).view.set]{fullShare} m (bLoc d) : sProp 𝕄) from Entails.of_eq rfl) $$ Hb3'
  sl_exec
  iapply (gather_wait' d L (cut 31 fullShare (wid L)) (m (eLoc d)) (rowsF (m (eLoc d)) (toks (m (tLoc d)) L 2)) (toks (m (tLoc d)) L 3) O _) $$ [HG HO]
  · isplitl [HG]; · iexact HG
    isplitl [HO]; · iexact HO
    iexact Hmw
  iintro ⟨⟨Hr', He', Hi'⟩, Hs0, HO⟩
  beta_reduce
  sl_exec
  rw [wp_ret]
  imodintro
  ihave Hb0 := (base_done (F := F) d L (m (tLoc d)) (m (eLoc d)) 0 (m (bLoc d)) 0#32 rfl (k0_off6_inb L 0) (tile_body.sl.dma0_3 m d L) rfl) $$ Hb0''
  ihave Hb1 := (base_done (F := F) d L (m (tLoc d)) (m (eLoc d)) 1 (m (bLoc d)) 128#32 rfl (k0_off6_inb L 1) (tile_body.sl.dma0_5 m d L) rfl) $$ Hb1''
  ihave Hb2 := (base_done (F := F) d L (m (tLoc d)) (m (eLoc d)) 2 (m (bLoc d)) 256#32 rfl (k0_off6_inb L 2) (tile_body.sl.dma0_7 m d L) rfl) $$ Hb2''
  ihave Hb3 := (base_done (F := F) d L (m (tLoc d)) (m (eLoc d)) 3 (m (bLoc d)) 384#32 rfl (k0_off6_inb L 3) (tile_body.sl.dma0_9 m d L) rfl) $$ Hb3''
  ihave Hh := (hist_done (F := F) d L (m (tLoc d)) (m (hLoc d)) (tile_body.sl.dma0_1 m d L) rfl) $$ Hh'
  ihave Ht := (Entails.of_eq (pts_tV (F := F) d L _ _)) $$ Ht'
  ihave He := (Entails.of_eq (pts_eV (F := F) d L _ _)) $$ He'
  ihave Hi := (Entails.of_eq (pts_iV (F := F) d L _)) $$ Hi'
  ihave Hr := (Entails.of_eq (pts_rV (F := F) d L _)) $$ Hr'
  ihave Hl := (Entails.of_eq (pts_lV (F := F) d L _)) $$ Hl'
  ihave Hc := (Entails.of_eq (pts_cV (F := F) d L _)) $$ Hc2
  isplitl [Ht He Hb0 Hb1 Hb2 Hb3 Hh]
  · isplitl [Ht]; · iexact Ht
    isplitl [He]; · iexact He
    isplitl [Hb0]; · iexact Hb0
    isplitl [Hb1]; · iexact Hb1
    isplitl [Hb2]; · iexact Hb2
    isplitl [Hb3]; · iexact Hb3
    iexact Hh
  isplitl [Hi Hr Hl Hc Hbufs]
  · isplitl [Hi]; · iexists _; iexact Hi
    isplitl [Hr]; · iexists _; iexact Hr
    isplitl [Hl]; · iexists _; iexact Hl
    isplitl [Hc]; · iexists _; iexact Hc
    iexact Hbufs
  isplitl [Hs0 Hs1 Hs2 Hs3 Hs4 Hs5 Hs6 Hs7 Hs8 Hs9 Hs10 Hsems]
  · isplitr [Hsems]
    · isplitl [Hs0]; · iexact Hs0
      isplitl [Hs1]; · iexact Hs1
      isplitl [Hs2]; · iexact Hs2
      isplitl [Hs3]; · iexact Hs3
      isplitl [Hs4]; · iexact Hs4
      isplitl [Hs5]; · iexact Hs5
      isplitl [Hs6]; · iexact Hs6
      isplitl [Hs7]; · iexact Hs7
      isplitl [Hs8]; · iexact Hs8
      isplitl [Hs9]; · iexact Hs9
      iexact Hs10
    iexact Hsems
  iexists _
  isplitr
  rotate_left
  · iexact HO
  · ipureintro
    intro p hp
    simp only [Finset.mem_insert] at hp
    rcases hp with h | h | h | h | h | h | h | h | h | h | h | h | h | h | h
    all_goals first
      | exact Or.inl h
      | exact Or.inr (by rw [h]; rfl)

end Cert.Proof.IdealRun

end
-- ==== Proof.IdealRun.Launch.lean ====
/-
  The SparseCore call: what it is handed and hands back, and the tasks that do it.
-/
module

public import proofs.«01_k».proof.Proof.IdealRun.TileBody

@[expose] public section

noncomputable section

namespace Cert.Proof.IdealRun

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tV" => (Memref.whole Cert.KernelIdeal.main_arg0_scv : Memref Cert.KernelIdeal.sig Kind.scVector Space.hbm Cert.KernelIdeal.S327680 EltTy.i32)
local notation "eV" => (Memref.whole Cert.KernelIdeal.main_arg2_scv : Memref Cert.KernelIdeal.sig Kind.scVector Space.hbm Cert.KernelIdeal.S100000x128 EltTy.f32)
local notation "bV" => (Memref.whole Cert.KernelIdeal.main_v0_0_scv : Memref Cert.KernelIdeal.sig Kind.scVector Space.hbm Cert.KernelIdeal.S16384x128 EltTy.f32)
local notation "hV" => (Memref.whole Cert.KernelIdeal.main_v0_1_scv : Memref Cert.KernelIdeal.sig Kind.scVector Space.hbm Cert.KernelIdeal.S32x100000 EltTy.f32)
local notation "iV" => (Memref.whole Cert.KernelIdeal.cc0_scratch0 : Memref Cert.KernelIdeal.sig Kind.scVector Space.vmem Cert.KernelIdeal.S128 EltTy.i32)
local notation "rV" => (Memref.whole Cert.KernelIdeal.cc0_scratch1 : Memref Cert.KernelIdeal.sig Kind.scVector Space.vmem Cert.KernelIdeal.S128x128 EltTy.f32)
local notation "lV" => (Memref.whole Cert.KernelIdeal.cc0_scratch2 : Memref Cert.KernelIdeal.sig Kind.scVector Space.vmem Cert.KernelIdeal.S9728 EltTy.i32)
local notation "cV" => (Memref.whole Cert.KernelIdeal.cc0_scratch3 : Memref Cert.KernelIdeal.sig Kind.scVector Space.vmem Cert.KernelIdeal.S100000 EltTy.f32)

variable [FloatOps F] [Named F]
variable (m : (ℓ : Loc nD τ sig) → Buf (Elt F) ℓ)

theorem nSub_zero : (K (F := F)).nSub 0 = 16 := rfl
theorem nCore_zero : (K (F := F)).nCore 0 = 2 := rfl

/-- The number of task `i` of core `c`. -/
def wOf (c : Fin 2) (i : Fin 16) : Fin 32 := ⟨2 * i.val + c.val, by omega⟩

/-! ## What the call is handed and hands back -/

/-- The four arrays of the call at given results: the token list, the table, the gathered rows, the histograms. -/
def callRes (d : Dev nD) (fb : Buf (Elt F) (bLoc d)) (fh : Buf (Elt F) (hLoc d)) : sProp 𝕄 :=
  iprop((tLoc d ↦{fullShare} m (tLoc d)) ∗ (eLoc d ↦{fullShare} m (eLoc d)) ∗ (bLoc d ↦{fullShare} fb) ∗ (hLoc d ↦{fullShare} fh))

abbrev fbN (d : Dev nD) : Buf (Elt F) (bLoc d) := baseF (m (tLoc d)) (m (eLoc d))
abbrev fhN (d : Dev nD) : Buf (Elt F) (hLoc d) := histF (F := F) (m (tLoc d))

def P : (K (F := F)).Pay (nD := nD) (Val := Elt F) (Name := ℕ) (U := UU) where
  st := fun q d c => match q with
    | 0 => bigSep Finset.univ fun i : Fin 16 => tileRes m d (wOf (Fin.cast nCore_zero c) i) (m (bLoc d)) (m (hLoc d))
  dn := fun q d c => match q with
    | 0 => bigSep Finset.univ fun i : Fin 16 => tileRes m d (wOf (Fin.cast nCore_zero c) i) (fbN m d) (fhN m d)
  go := fun q d c i => match q with
    | 0 => tileRes m d (wOf (Fin.cast nCore_zero c) (Fin.cast nSub_zero i)) (m (bLoc d)) (m (hLoc d))
  td := fun q d c i => match q with
    | 0 => tileRes m d (wOf (Fin.cast nCore_zero c) (Fin.cast nSub_zero i)) (fbN m d) (fhN m d)
  x := fun _ _ => iprop(emp)

instance P_storable : (P (F := F) m).IsStorable where
  st q d c := match q with
    | 0 => (inferInstance : BI.Storable (upEmb : UEmb _ 𝕄) (bigSep Finset.univ fun i : Fin 16 => tileRes m d (wOf (Fin.cast nCore_zero c) i) (m (bLoc d)) (m (hLoc d))))
  dn q d c := match q with
    | 0 => (inferInstance : BI.Storable (upEmb : UEmb _ 𝕄) (bigSep Finset.univ fun i : Fin 16 => tileRes m d (wOf (Fin.cast nCore_zero c) i) (fbN m d) (fhN m d)))
  go q d c i := match q with
    | 0 => tileRes_storable m d (wOf (Fin.cast nCore_zero c) (Fin.cast nSub_zero i)) (m (bLoc d)) (m (hLoc d))
  td q d c i := match q with
    | 0 => tileRes_storable m d (wOf (Fin.cast nCore_zero c) (Fin.cast nSub_zero i)) (fbN m d) (fhN m d)

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_body (coordsV c s)
          tV (Memref.isWhole_whole _) eV (Memref.isWhole_whole _) bV (Memref.isWhole_whole _) hV (Memref.isWhole_whole _)
          iV (Memref.isWhole_whole _) rV (Memref.isWhole_whole _) lV (Memref.isWhole_whole _) cV (Memref.isWhole_whole _)
          cc0_scratch4 cc0_scoped0 cc0_scoped1 cc0_scoped2 cc0_scoped3 cc0_scoped4 cc0_scoped5 cc0_scoped6 cc0_scoped7 cc0_scoped8 cc0_scoped9) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF hpre O W hO).trans (wp_mono frame _ _ fun _ => obl_post)

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- A core's payload is its tasks' payloads. -/
theorem vecSplit : (K (F := F)).VecSplit' (P m) 0 := by
  intro d c
  show (bigSep Finset.univ fun i : Fin 16 => tileRes m d (wOf (Fin.cast nCore_zero c) i) (m (bLoc d)) (m (hLoc d))) ⊢ |={Set.univ}=> iprop(
      (bigSep Finset.univ fun i : Fin ((K (F := F)).nSub 0) => tileRes m d (wOf (Fin.cast nCore_zero c) (Fin.cast nSub_zero i)) (m (bLoc d)) (m (hLoc d)))
      ∗ ((bigSep Finset.univ fun i : Fin ((K (F := F)).nSub 0) => tileRes m d (wOf (Fin.cast nCore_zero c) (Fin.cast nSub_zero i)) (fbN m d) (fhN m d))
          -∗ (bigSep Finset.univ fun i : Fin 16 => tileRes m d (wOf (Fin.cast nCore_zero c) i) (fbN m d) (fhN m d))))
  rw [bigSep_tasks (F := F) (fun i => tileRes m d (wOf (Fin.cast nCore_zero c) i) (m (bLoc d)) (m (hLoc d))),
    bigSep_tasks (F := F) (fun i => tileRes m d (wOf (Fin.cast nCore_zero c) i) (fbN m d) (fhN m d))]
  iintro H; imodintro
  isplitl [H]; · iexact H
  iintro H; iexact H

/-! ## The four arrays, dealt to the thirty-two tasks -/

theorem bPts_blocks (d : Dev nD) (f : Buf (Elt F) (bLoc d)) :
    (bLoc d ↦{fullShare} f : sProp 𝕄) = bigSep Finset.univ fun w : Fin 32 => bigSep Finset.univ fun r : Fin 4 => bLoc d ↦[(bRect (blk w r)).set]{fullShare} f := by
  have h1 : (bLoc d ↦{fullShare} f : sProp 𝕄) = bigSep Finset.univ fun i : Fin 128 => bLoc d ↦[(bRect i).set]{fullShare} f := by
    rw [← pointsTo_biUnion Finset.univ (ℓ := bLoc d) (fun i : Fin 128 => (bRect i).set) (fun i _ j _ h => Rect.part_disjoint bdiv h)]
    exact congrArg (fun I => (bLoc d ↦[I]{fullShare} f : sProp 𝕄)) (Rect.biUnion_part bdiv).symm
  rw [h1, bigSep_univ_equiv (finProdFinEquiv : Fin 32 × Fin 4 ≃ Fin 128), bigSep_univ_prod]
  refine bigSep_congr fun w _ => bigSep_congr fun r _ => ?_
  have : (finProdFinEquiv (w, r) : Fin 128) = blk w r := Fin.ext (by simp [finProdFinEquiv, blk]; omega)
  rw [this]

theorem hPts_rows (d : Dev nD) (f : Buf (Elt F) (hLoc d)) :
    (hLoc d ↦{fullShare} f : sProp 𝕄) = bigSep Finset.univ fun w : Fin 32 => hLoc d ↦[(hRect w).set]{fullShare} f := by
  rw [← pointsTo_biUnion Finset.univ (ℓ := hLoc d) (fun i : Fin 32 => (hRect i).set) (fun i _ j _ h => Rect.part_disjoint hdiv h)]
  exact congrArg (fun I => (hLoc d ↦[I]{fullShare} f : sProp 𝕄)) (Rect.biUnion_part hdiv).symm

theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ

theorem sep_regroup (A B C D E G H : sProp 𝕄) : iprop(A ∗ B ∗ (C ∗ D ∗ E ∗ G) ∗ H) = iprop(A ∗ B ∗ C ∗ D ∗ E ∗ G ∗ H) := by
  refine BI.Entails.antisymm (show iprop(A ∗ B ∗ (C ∗ D ∗ E ∗ G) ∗ H) ⊢ iprop(A ∗ B ∗ C ∗ D ∗ E ∗ G ∗ H) from ?_)
    (show iprop(A ∗ B ∗ C ∗ D ∗ E ∗ G ∗ H) ⊢ iprop(A ∗ B ∗ (C ∗ D ∗ E ∗ G) ∗ H) from ?_)
  · iintro ⟨H1, H2, ⟨H3, H4, H5, H6⟩, H7⟩
    isplitl [H1]; · iexact H1
    isplitl [H2]; · iexact H2
    isplitl [H3]; · iexact H3
    isplitl [H4]; · iexact H4
    isplitl [H5]; · iexact H5
    isplitl [H6]; · iexact H6
    iexact H7
  · iintro ⟨H1, H2, H3, H4, H5, H6, H7⟩
    isplitl [H1]; · iexact H1
    isplitl [H2]; · iexact H2
    isplitl [H3 H4 H5 H6]
    · isplitl [H3]; · iexact H3
      isplitl [H4]; · iexact H4
      isplitl [H5]; · iexact H5
      iexact H6
    iexact H7

theorem callRes_tasks (d : Dev nD) (fb : Buf (Elt F) (bLoc d)) (fh : Buf (Elt F) (hLoc d)) :
    callRes m d fb fh = bigSep Finset.univ fun w : Fin 32 => tileRes m d w fb fh := by
  unfold callRes tileRes
  rw [pointsTo_cut Finset.univ (m (tLoc d)) 31 fullShare, pointsTo_cut Finset.univ (m (eLoc d)) 31 fullShare, bPts_blocks, hPts_rows]
  simp only [bigSep_four, bigSep_sep']
  exact sep_regroup _ _ _ _ _ _ _

theorem callRes_cores (d : Dev nD) (fb : Buf (Elt F) (bLoc d)) (fh : Buf (Elt F) (hLoc d)) :
    (bigSep Finset.univ fun c : Fin 2 => bigSep Finset.univ fun i : Fin 16 => tileRes m d (wOf c i) fb fh) = callRes m d fb fh := by
  rw [callRes_tasks, bigSep_univ_equiv ((Equiv.prodComm (Fin 2) (Fin 16)).trans (finProdFinEquiv : Fin 16 × Fin 2 ≃ Fin 32)), bigSep_univ_prod]
  refine bigSep_congr fun c _ => bigSep_congr fun i _ => ?_
  have : (finProdFinEquiv (i, c) : Fin 32) = wOf c i := Fin.ext (by simp [finProdFinEquiv, wOf]; omega)
  show _ = tileRes m d (finProdFinEquiv (i, c)) fb fh
  rw [this]

theorem st0_eq (d : Dev nD) : (bigSep Finset.univ fun c : Fin ((K (F := F)).nCore 0) => (P m).st 0 d c) = callRes m d (m (bLoc d)) (m (hLoc d)) :=
  (bigSep_cores (F := F) fun c => bigSep Finset.univ fun i : Fin 16 => tileRes m d (wOf c i) (m (bLoc d)) (m (hLoc d))).trans (callRes_cores m d _ _)
theorem dn0_eq (d : Dev nD) : (bigSep Finset.univ fun c : Fin ((K (F := F)).nCore 0) => (P m).dn 0 d c) = callRes m d (fbN m d) (fhN m d) :=
  (bigSep_cores (F := F) fun c => bigSep Finset.univ fun i : Fin 16 => tileRes m d (wOf c i) (fbN m d) (fhN m d)).trans (callRes_cores m d _ _)

end Cert.Proof.IdealRun

end
-- ==== Proof.IdealRun.Main.lean ====
/-
  The program's run. @main on the TensorCore: the SparseCore call, two host operations, the first pipeline, six host
  operations, the second pipeline. Each step's contents of the unscoped buffers is a function of the step before.
-/
module

public import proofs.«01_k».proof.Proof.IdealRun.Regions
public import proofs.«01_k».proof.Proof.IdealRun.Launch

@[expose] public section

noncomputable section

namespace Cert.Proof.IdealRun

open Cert.KernelIdeal Cert.KernelIdeal.Gen

open Idealize.ShloMosaic
open Idealize.ShloMosaic.TcCoe
open Idealize.ShloMosaic.SparseCore.Cfg (HIx)
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] [Named F]

variable (m : (ℓ : Loc nD τ sig) → Buf (Elt F) ℓ) (ρ : Dev nD → PrngReg)

instance EP_landsIn : (EP : Emb UP 𝕄).LandsIn (upEmb : UEmb _ 𝕄) := by unfold EP embR; infer_instance

/-! ## The contents of the unscoped buffers, step by step -/

/-- After the SparseCore call: the gathered rows and the histograms in its two results. -/
def valA (d : Dev nD) : Valuation τ sig (Elt F) :=
  Function.update (Function.update (StableHlo.launchContents m d) (Proc.devRef .tc main_v0_0) (fbN m d)) (Proc.devRef .tc main_v0_1) (fhN m d)

/-- The host operations before the first pipeline. -/
def opH : HloOp τ sig (Elt F) := StableHlo.reshape main_v0_1 main_v1 (rfl : (.f32 : EltTy) = .f32) shapeCasts_S32x100000_S32x10x1x10000
def opR : HloOp τ sig (Elt F) := StableHlo.unary main_v0_0 main_v2 ((extractStridedSlice S1x128 ![16383, 0] · slices_S16384x128_S1x128_16383_0) : (⟨S16384x128, .f32⟩ : BufTy).Contents (Elt F) → (⟨S1x128, .f32⟩ : BufTy).Contents (Elt F))
/-- The host operations before the second: each bias as a row. -/
def opB0 : HloOp τ sig (Elt F) := StableHlo.reshape main_arg4 main_v4 (rfl : (.f32 : EltTy) = .f32) shapeCasts_S32_S1x32
def opB1 : HloOp τ sig (Elt F) := StableHlo.reshape main_arg6 main_v5 (rfl : (.f32 : EltTy) = .f32) shapeCasts_S16_S1x16
def opB2 : HloOp τ sig (Elt F) := StableHlo.reshape main_arg8 main_v6 (rfl : (.f32 : EltTy) = .f32) shapeCasts_S128_S1x128
def opB3 : HloOp τ sig (Elt F) := StableHlo.reshape main_arg10 main_v7 (rfl : (.f32 : EltTy) = .f32) shapeCasts_S64_S1x64
def opB4 : HloOp τ sig (Elt F) := StableHlo.reshape main_arg12 main_v8 (rfl : (.f32 : EltTy) = .f32) shapeCasts_S32_S1x32
def opB5 : HloOp τ sig (Elt F) := StableHlo.reshape main_arg14 main_v9 (rfl : (.f32 : EltTy) = .f32) shapeCasts_S100_S1x100

theorem opH_bufs : (opH (F := F)).bufs ⊆ StableHlo.tcRefs τ sig := by
  unfold opH; first | exact StableHlo.reshape_bufs_sub .. | exact StableHlo.unary_bufs_sub ..
theorem opR_bufs : (opR (F := F)).bufs ⊆ StableHlo.tcRefs τ sig := by
  unfold opR; first | exact StableHlo.reshape_bufs_sub .. | exact StableHlo.unary_bufs_sub ..
theorem opB0_bufs : (opB0 (F := F)).bufs ⊆ StableHlo.tcRefs τ sig := by
  unfold opB0; first | exact StableHlo.reshape_bufs_sub .. | exact StableHlo.unary_bufs_sub ..
theorem opB1_bufs : (opB1 (F := F)).bufs ⊆ StableHlo.tcRefs τ sig := by
  unfold opB1; first | exact StableHlo.reshape_bufs_sub .. | exact StableHlo.unary_bufs_sub ..
theorem opB2_bufs : (opB2 (F := F)).bufs ⊆ StableHlo.tcRefs τ sig := by
  unfold opB2; first | exact StableHlo.reshape_bufs_sub .. | exact StableHlo.unary_bufs_sub ..
theorem opB3_bufs : (opB3 (F := F)).bufs ⊆ StableHlo.tcRefs τ sig := by
  unfold opB3; first | exact StableHlo.reshape_bufs_sub .. | exact StableHlo.unary_bufs_sub ..
theorem opB4_bufs : (opB4 (F := F)).bufs ⊆ StableHlo.tcRefs τ sig := by
  unfold opB4; first | exact StableHlo.reshape_bufs_sub .. | exact StableHlo.unary_bufs_sub ..
theorem opB5_bufs : (opB5 (F := F)).bufs ⊆ StableHlo.tcRefs τ sig := by
  unfold opB5; first | exact StableHlo.reshape_bufs_sub .. | exact StableHlo.unary_bufs_sub ..

/-- Entering the first pipeline. -/
def valB (d : Dev nD) : Valuation τ sig (Elt F) := (opR (F := F)).result ((opH (F := F)).result (valA m d))
/-- After the first pipeline. -/
def valC (d : Dev nD) : Valuation τ sig (Elt F) := after1 (valB m) d
/-- Entering the second pipeline. -/
def valD (d : Dev nD) : Valuation τ sig (Elt F) :=
  (opB5 (F := F)).result ((opB4 (F := F)).result ((opB3 (F := F)).result ((opB2 (F := F)).result ((opB1 (F := F)).result ((opB0 (F := F)).result (valC m d))))))
/-- At the end. -/
def valE (d : Dev nD) : Valuation τ sig (Elt F) := after2 (valD m) d

/-! ## The four arrays of the SparseCore call among the unscoped buffers -/

def callRefs : Finset (DevRef τ sig) := {Proc.devRef .tc main_arg0, Proc.devRef .tc main_arg2, Proc.devRef .tc main_v0_0, Proc.devRef .tc main_v0_1}

theorem callRefs_sub : callRefs ⊆ Pipeline.ucRefs τ sig := by
  intro b hb
  simp only [callRefs, Finset.mem_insert, Finset.mem_singleton] at hb
  rcases hb with rfl | rfl | rfl | rfl <;> exact Pipeline.devRef_mem_ucRefs rfl

theorem held_callRefs (d : Dev nD) (V : Valuation τ sig (Elt F)) :
    (StableHlo.held (SparseCore.T d : Thread nD τ) callRefs V : sProp 𝕄)
      = iprop((tLoc d ↦{fullShare} V (Proc.devRef .tc main_arg0)) ∗ (eLoc d ↦{fullShare} V (Proc.devRef .tc main_arg2))
        ∗ (bLoc d ↦{fullShare} V (Proc.devRef .tc main_v0_0)) ∗ (hLoc d ↦{fullShare} V (Proc.devRef .tc main_v0_1))) := by
  unfold StableHlo.held callRefs
  rw [SparseCore.bigSep_insert' (by decide), SparseCore.bigSep_insert' (by decide), SparseCore.bigSep_insert' (by decide), bigSep_singleton]

theorem valA_base (d : Dev nD) : valA m d (Proc.devRef .tc main_v0_0) = fbN m d := by
  unfold valA
  rw [Function.update_of_ne (by decide), Function.update_self]

theorem valA_hist (d : Dev nD) : valA m d (Proc.devRef .tc main_v0_1) = fhN m d := by
  unfold valA
  rw [Function.update_self]

theorem valA_other (d : Dev nD) (b : DevRef τ sig) (h0 : b ≠ Proc.devRef .tc main_v0_0) (h1 : b ≠ Proc.devRef .tc main_v0_1) :
    valA m d b = m (d, b) := by
  unfold valA
  rw [Function.update_of_ne h1, Function.update_of_ne h0]

theorem held_start (d : Dev nD) :
    (StableHlo.held (SparseCore.T d : Thread nD τ) (Pipeline.ucRefs τ sig) (StableHlo.launchContents m d) : sProp 𝕄)
      = iprop(callRes m d (m (bLoc d)) (m (hLoc d)) ∗ StableHlo.held (SparseCore.T d : Thread nD τ) (Pipeline.ucRefs τ sig \ callRefs) (StableHlo.launchContents m d)) := by
  rw [StableHlo.held_sub_split _ callRefs_sub, held_callRefs]
  rfl

theorem held_called (d : Dev nD) :
    (StableHlo.held (SparseCore.T d : Thread nD τ) (Pipeline.ucRefs τ sig) (valA m d) : sProp 𝕄)
      = iprop(callRes m d (fbN m d) (fhN m d) ∗ StableHlo.held (SparseCore.T d : Thread nD τ) (Pipeline.ucRefs τ sig \ callRefs) (StableHlo.launchContents m d)) := by
  rw [StableHlo.held_sub_split _ callRefs_sub, held_callRefs, valA_base, valA_hist, valA_other m d _ (by decide) (by decide),
    valA_other m d _ (by decide) (by decide)]
  rw [StableHlo.held_congr (SparseCore.T d : Thread nD τ) (S := Pipeline.ucRefs τ sig \ callRefs) (V := valA m d) (V' := StableHlo.launchContents m d) (fun b hb => by
    have hn := (Finset.mem_sdiff.mp hb).2
    refine valA_other m d b (fun h => hn ?_) (fun h => hn ?_) <;> rw [h] <;> simp [callRefs])]
  rfl

/-! ## A pipeline's region in @main -/

theorem region_step [∀ e, Nonempty (Elt F e)] {V : Dev nD → Valuation τ sig (Elt F)} {p : Fin 2}
    (R : Pipeline.RegionSeg (pcfgs (F := F)) adm (pdats V) (none : HIx 1) (defs₀ (F := F)) 𝒱₀ (K (F := F)).L (K (F := F)).lev p) (d : Dev nD) (Q : PUnit → sProp 𝕄) :
    iprop((iprop(boundary (d.tc : Thread nD τ) ∗ R.post d) -∗ Q ⟨⟩) ∗ boundary (d.tc : Thread nD τ) ∗ R.pre d ∗ levAts (K (F := F)).L (K (F := F)).lev
        ∗ Pipeline.cellsGhost (Pipeline.pin (pcfgs (F := F)) adm) EP p d ∗ Pipeline.toksInit (Pipeline.pin (pcfgs (F := F)) adm) EP p d)
      ⊢ wp frame (wpE ((K (F := F)).defs (D (F := F))) 𝒱 (SparseCore.T d) none) Set.univ (Prog.lift (.customCall (SparseCore.inner (Pipeline.entry p)) ())) Q := by
  refine BI.Entails.trans ?_ ((K (F := F)).wp_liftProg (D (F := F)) 𝒱 (SparseCore.T d) Set.univ none (.op (.customCall (Pipeline.entry p) ()) .ret) Q)
  refine BI.Entails.trans ?_ (Pipeline.RegionSeg.wp (pcfgs (F := F)) adm (pdats V) (none : HIx 1) cellOf_inj EP (defs₀ (F := F)) 𝒱₀ (K (F := F)).L (K (F := F)).lev R d none
    (fun u hu => by cases hu) .ret Q)
  rw [wp_ret]
  show iprop((iprop(boundary (d.tc : Thread nD τ) ∗ R.post d) -∗ Q ⟨⟩) ∗ boundary (d.tc : Thread nD τ) ∗ R.pre d ∗ levAts (K (F := F)).L (K (F := F)).lev
        ∗ Pipeline.cellsGhost (Pipeline.pin (pcfgs (F := F)) adm) EP p d ∗ Pipeline.toksInit (Pipeline.pin (pcfgs (F := F)) adm) EP p d) ⊢ _
  iintro ⟨Hk, H⟩
  isplitl [Hk]
  · iintro HR
    imodintro
    iapply Hk; iexact HR
  · iexact H

theorem state_pre1 (V : Dev nD → Valuation τ sig (Elt F)) (d : Dev nD) :
    iprop(StableHlo.held (d.tc : Thread nD τ) (Pipeline.ucRefs τ sig) (V d) ∗ settled (F := F) d) ⊢ ((reg1 V).pre d : sProp 𝕄) := BI.BIBase.Entails.rfl
theorem state_pre2 (V : Dev nD → Valuation τ sig (Elt F)) (d : Dev nD) :
    iprop(StableHlo.held (d.tc : Thread nD τ) (Pipeline.ucRefs τ sig) (V d) ∗ settled (F := F) d) ⊢ ((reg2 V).pre d : sProp 𝕄) := BI.BIBase.Entails.rfl

theorem owes_end (d : Dev nD) (W : Waits sig (HIx 1)) :
    (owes (SparseCore.T d : Thread nD τ) ((K (F := F)).Otc d ((0 : Fin 1).val + 1)) W : sProp 𝕄) = owes (d.tc : Thread nD τ) (0 : CellTallies nD τ sig (HIx 1)) W := by
  rw [(K (F := F)).Otc_end d (n := (0 : Fin 1).val + 1) (le_refl 1)]

/-! ## The launch element of the ghost state -/

/-- What the launch deals device `d`'s @main: both pipelines' cells and tokens. -/
def G (d : Dev nD) : sProp 𝕄 :=
  iprop((bigSep Finset.univ fun p : Fin 2 => Pipeline.cellsGhost (Pipeline.pin (pcfgs (F := F)) adm) EP p d)
    ∗ (bigSep Finset.univ fun p : Fin 2 => (Pipeline.toksInit (Pipeline.pin (pcfgs (F := F)) adm) EP p d : sProp 𝕄)))

def uP : UP := initOf (Pipeline.cells (nD := nD) (τ := τ) (Pipeline.pin (pcfgs (F := F)) adm) cellOf_inj) (Pipeline.launchToks (nD := nD) (τ := τ) (Pipeline.pin (pcfgs (F := F)) adm) cellOf_inj)

def u₀ : UU := (initOf (K (F := F)).hsCells (K (F := F)).hsToks, (uP (F := F), 1))

theorem bigSep_emp'' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀
  have hfund : (BI.own (EP (uP (F := F))) : sProp 𝕄) ⊢ |==> bigSep Finset.univ fun d : Dev nD => G (F := F) d := by
    refine (Pipeline.fund_ghost (Pipeline.pin (pcfgs (F := F)) adm) EP cellOf_inj).trans (bupd_mono ?_)
    unfold G
    rw [bigSep_sep']
    exact fun _ h => h
  iintro Hu
  ihave H := (ownU_pair (initOf (K (F := F)).hsCells (K (F := F)).hsToks) ((uP (F := F), 1) : UP × Counters)) $$ Hu
  icases H with ⟨HH, HP⟩
  ihave HP' := (show (BI.own (embR ((uP (F := F), 1) : UP × Counters)) : sProp 𝕄) ⊢ BI.own (EP (uP (F := F))) from BI.BIBase.Entails.rfl) $$ HP
  imod hfund $$ HP' with HG
  imodintro
  isplitl [HH]; · iexact HH
  isplitl [HG]; · iexact HG
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp'']
  iempintro

/-! ## @main -/

/-- Every unscoped buffer at its contents at the end. -/
abbrev FIN (d : Dev nD) : sProp 𝕄 := StableHlo.held (SparseCore.T d : Thread nD τ) (Pipeline.ucRefs τ sig) (valE m d)

theorem bigSep_two (Φ : Fin 2 → sProp 𝕄) : bigSep Finset.univ Φ = iprop(Φ 0 ∗ Φ 1) :=
  bigSep_univ_eq_bigSepL [0, 1] (by decide) (by decide) Φ

set_option maxRecDepth 16384 in
set_option backward.isDefEq.respectTransparency.types false in
theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd G
  rw [show (unscopedBufs d (fun b => m ((SparseCore.T d : Thread nD τ).loc b)) : sProp 𝕄)
      = StableHlo.held (SparseCore.T d : Thread nD τ) (Pipeline.ucRefs τ sig) (StableHlo.launchContents m d) from
    Pipeline.unscopedBufs_held d (StableHlo.launchContents m d), held_start, bigSep_two, bigSep_two]
  simp only [main, wp_bind, wp_pure]
  iintro ⟨#Hctx, Hst, ⟨Hb, ⟨Hcall, Hrest⟩, Hts, -⟩, ⟨Hg0, Hg1⟩, ⟨Ht0, Ht1⟩⟩
  ihave #Hlev := (SparseCore.Cfg.ctx_levAts (K := K (F := F)) (EH := EH) (P := P m) κ) $$ Hctx
  iapply ((K (F := F)).wp_run (D (F := F)) 𝒱 (EH := EH) (P := P m) κ d 0) $$ [Hst Hcall Hrest Hb Hts Hg0 Hg1 Ht0 Ht1]
  isplitr; · iexact Hctx
  isplitl [Hst]; · iexact Hst
  isplitl [Hcall]
  · rw [st0_eq]; iexact Hcall
  iintro ⟨Hst, Hdn⟩
  ihave Hcall := (Entails.of_eq (dn0_eq m d)) $$ Hdn
  ihave Hh := (Entails.of_eq (held_called m d).symm) $$ [Hcall Hrest]
  · isplitl [Hcall] <;> iassumption
  unfold SparseCore.Cfg.tcSt
  icases Hst with ⟨⟨%W, %hW, HO⟩, Hst⟩
  iapply (StableHlo.wp_hlo_within (op := opH (F := F)) 𝒱 (SparseCore.T d : Thread nD τ) none Set.univ (Pipeline.sub_ucRefs _ opH_bufs)) $$ [Hb Hh]
  · isplitl [Hb] <;> iassumption
  iintro ⟨Hb, Hh⟩
  rw [wp_ret]; imodintro
  iapply (StableHlo.wp_hlo_within (op := opR (F := F)) 𝒱 (SparseCore.T d : Thread nD τ) none Set.univ (Pipeline.sub_ucRefs _ opR_bufs)) $$ [Hb Hh]
  · isplitl [Hb] <;> iassumption
  iintro ⟨Hb, Hh⟩
  rw [wp_ret]; imodintro
  iapply (region_step (reg1 (valB m)) d _) $$ [Hst HO Hb Hh Hts Hg0 Hg1 Ht0 Ht1]
  isplitr [Hb Hh HO Hg0 Ht0]
  swap
  · isplitl [Hb]; · iexact Hb
    isplitl [Hh HO]
    · iapply (state_pre1 (valB m) d)
      unfold settled
      isplitl [Hh]; · iexact Hh
      iexists W; isplitr
      · ipureintro; exact hW
      · iapply (Entails.of_eq (owes_end (F := F) d W)); iexact HO
    isplitr; · iexact Hlev
    isplitl [Hg0] <;> iassumption
  iintro ⟨Hb, Hs⟩
  ihave Hs' := (show ((reg1 (valB m)).post d : sProp 𝕄) ⊢ state (valC m) d from BI.BIBase.Entails.rfl) $$ Hs
  unfold state settled
  icases Hs' with ⟨Hh, ⟨%W', %hW', HO⟩⟩
  iapply (StableHlo.wp_hlo_within (op := opB0 (F := F)) 𝒱 (SparseCore.T d : Thread nD τ) none Set.univ (Pipeline.sub_ucRefs _ opB0_bufs)) $$ [Hb Hh]
  · isplitl [Hb] <;> iassumption
  iintro ⟨Hb, Hh⟩
  rw [wp_ret]; imodintro
  iapply (StableHlo.wp_hlo_within (op := opB1 (F := F)) 𝒱 (SparseCore.T d : Thread nD τ) none Set.univ (Pipeline.sub_ucRefs _ opB1_bufs)) $$ [Hb Hh]
  · isplitl [Hb] <;> iassumption
  iintro ⟨Hb, Hh⟩
  rw [wp_ret]; imodintro
  iapply (StableHlo.wp_hlo_within (op := opB2 (F := F)) 𝒱 (SparseCore.T d : Thread nD τ) none Set.univ (Pipeline.sub_ucRefs _ opB2_bufs)) $$ [Hb Hh]
  · isplitl [Hb] <;> iassumption
  iintro ⟨Hb, Hh⟩
  rw [wp_ret]; imodintro
  iapply (StableHlo.wp_hlo_within (op := opB3 (F := F)) 𝒱 (SparseCore.T d : Thread nD τ) none Set.univ (Pipeline.sub_ucRefs _ opB3_bufs)) $$ [Hb Hh]
  · isplitl [Hb] <;> iassumption
  iintro ⟨Hb, Hh⟩
  rw [wp_ret]; imodintro
  iapply (StableHlo.wp_hlo_within (op := opB4 (F := F)) 𝒱 (SparseCore.T d : Thread nD τ) none Set.univ (Pipeline.sub_ucRefs _ opB4_bufs)) $$ [Hb Hh]
  · isplitl [Hb] <;> iassumption
  iintro ⟨Hb, Hh⟩
  rw [wp_ret]; imodintro
  iapply (StableHlo.wp_hlo_within (op := opB5 (F := F)) 𝒱 (SparseCore.T d : Thread nD τ) none Set.univ (Pipeline.sub_ucRefs _ opB5_bufs)) $$ [Hb Hh]
  · isplitl [Hb] <;> iassumption
  iintro ⟨Hb, Hh⟩
  rw [wp_ret]; imodintro
  iapply (region_step (reg2 (valD m)) d _) $$ [Hst HO Hb Hh Hts Hg1 Ht1]
  isplitr [Hb Hh HO Hg1 Ht1]
  swap
  · isplitl [Hb]; · iexact Hb
    isplitl [Hh HO]
    · iapply (state_pre2 (valD m) d)
      unfold settled
      isplitl [Hh]; · iexact Hh
      iexists W'; isplitr
      · ipureintro; exact hW'
      · iexact HO
    isplitr; · iexact Hlev
    isplitl [Hg1] <;> iassumption
  iintro ⟨Hb, Hs⟩
  ihave Hs' := (show ((reg2 (valD m)).post d : sProp 𝕄) ⊢ state (valE m) d from BI.BIBase.Entails.rfl) $$ Hs
  unfold state settled
  icases Hs' with ⟨Hh, ⟨%W'', %hW'', HO⟩⟩
  imodintro
  isplitl [Hst HO]
  · isplitl [HO]
    · iexists W''; isplitr
      · ipureintro; exact hW''
      · iapply (Entails.of_eq (owes_end (F := F) d W'').symm); iexact HO
    · iexact Hst
  isplitl [Hh]; · iexact Hh
  isplitl [Hb] <;> iassumption

end Cert.Proof.IdealRun

end
-- ==== Proof.IdealRun.Frame.lean ====
/-
  The frame of the program: every argument ends as it began, the result is the second pipeline's array, and every
  semaphore counter reads zero again.
-/
module

public import proofs.«01_k».proof.Proof.IdealRun.Main

@[expose] public section

noncomputable section

namespace Cert.Proof.IdealRun

open Cert.KernelIdeal Cert.KernelIdeal.Gen

open Idealize.ShloMosaic
open Idealize.ShloMosaic.TcCoe
open Idealize.ShloMosaic.SparseCore.Cfg (HIx)
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ

variable [FloatOps F] [Named F]

variable (m : (ℓ : Loc nD τ sig) → Buf (Elt F) ℓ) (ρ : Dev nD → PrngReg)

/-- The first pipeline changes its result's array only. -/
theorem after1_keep (V : Dev nD → Valuation τ sig (Elt F)) (c : Dev nD) (b : Ref sig .tc) (hb : b ≠ main_v3) :
    after1 V c (Proc.devRef .tc b) = V c (Proc.devRef .tc b) := by
  unfold after1
  by_cases h : ∃ w, b = Pipeline.arrRef cfg1.spec w
  · obtain ⟨w, rfl⟩ := h
    rw [Pipeline.afterRegion_arr (dat1 V c) (V c) launch1.win.arr_inj w]
    match w, hb with
    | ⟨0, _⟩, _ => exact (dat1 V c).arrAt_in 0 rfl _
    | ⟨1, _⟩, _ => exact (dat1 V c).arrAt_in 1 rfl _
    | ⟨2, _⟩, _ => exact (dat1 V c).arrAt_in 2 rfl _
    | ⟨3, _⟩, hb => exact absurd rfl hb
  · exact Pipeline.afterRegion_of_not_arr (dat1 V c) (V c) fun w hw => h ⟨w, hw⟩

/-- The second pipeline changes its result's array only. -/
theorem after2_keep (V : Dev nD → Valuation τ sig (Elt F)) (c : Dev nD) (b : Ref sig .tc) (hb : b ≠ main_v10) :
    after2 V c (Proc.devRef .tc b) = V c (Proc.devRef .tc b) := by
  unfold after2
  by_cases h : ∃ w, b = Pipeline.arrRef cfg2.spec w
  · obtain ⟨w, rfl⟩ := h
    rw [Pipeline.afterRegion_arr (dat2 V c) (V c) launch2.win.arr_inj w]
    match w, hb with
    | ⟨0, _⟩, _ => exact (dat2 V c).arrAt_in 0 rfl _
    | ⟨1, _⟩, _ => exact (dat2 V c).arrAt_in 1 rfl _
    | ⟨2, _⟩, _ => exact (dat2 V c).arrAt_in 2 rfl _
    | ⟨3, _⟩, _ => exact (dat2 V c).arrAt_in 3 rfl _
    | ⟨4, _⟩, _ => exact (dat2 V c).arrAt_in 4 rfl _
    | ⟨5, _⟩, _ => exact (dat2 V c).arrAt_in 5 rfl _
    | ⟨6, _⟩, _ => exact (dat2 V c).arrAt_in 6 rfl _
    | ⟨7, _⟩, _ => exact (dat2 V c).arrAt_in 7 rfl _
    | ⟨8, _⟩, _ => exact (dat2 V c).arrAt_in 8 rfl _
    | ⟨9, _⟩, _ => exact (dat2 V c).arrAt_in 9 rfl _
    | ⟨10, _⟩, _ => exact (dat2 V c).arrAt_in 10 rfl _
    | ⟨11, _⟩, _ => exact (dat2 V c).arrAt_in 11 rfl _
    | ⟨12, _⟩, _ => exact (dat2 V c).arrAt_in 12 rfl _
    | ⟨13, _⟩, _ => exact (dat2 V c).arrAt_in 13 rfl _
    | ⟨14, _⟩, hb => exact absurd rfl hb
  · exact Pipeline.afterRegion_of_not_arr (dat2 V c) (V c) fun w hw => h ⟨w, hw⟩

/-- The host operations before the second pipeline change the bias rows only. -/
theorem valD_keep (c : Dev nD) (b : Ref sig .tc) (hb : b ∉ ([main_v4, main_v5, main_v6, main_v7, main_v8, main_v9] : List (Ref sig .tc))) :
    valD m c (Proc.devRef .tc b) = valC m c (Proc.devRef .tc b) := by
  simp only [List.mem_cons, List.not_mem_nil, or_false, not_or] at hb
  obtain ⟨h4, h5, h6, h7, h8, h9⟩ := hb
  unfold valD opB0 opB1 opB2 opB3 opB4 opB5
  rw [StableHlo.reshape_result_ne _ _ _ _ _ _ _ h9, StableHlo.reshape_result_ne _ _ _ _ _ _ _ h8, StableHlo.reshape_result_ne _ _ _ _ _ _ _ h7, StableHlo.reshape_result_ne _ _ _ _ _ _ _ h6,
    StableHlo.reshape_result_ne _ _ _ _ _ _ _ h5, StableHlo.reshape_result_ne _ _ _ _ _ _ _ h4]

/-- The host operations before the first pipeline change their two results only. -/
theorem valB_keep (c : Dev nD) (b : Ref sig .tc) (h1 : b ≠ main_v1) (h2 : b ≠ main_v2) :
    valB m c (Proc.devRef .tc b) = valA m c (Proc.devRef .tc b) := by
  unfold valB opH opR
  rw [StableHlo.unary_result_ne _ _ _ _ _ _ h2, StableHlo.reshape_result_ne _ _ _ _ _ _ _ h1]

/-- What is neither a result of the SparseCore call, of a host operation nor of a pipeline is at the end as at the launch. -/
theorem valE_keep (c : Dev nD) (b : Ref sig .tc)
    (hb : b ∉ ([main_v0_0, main_v0_1, main_v1, main_v2, main_v3, main_v4, main_v5, main_v6, main_v7, main_v8, main_v9, main_v10] : List (Ref sig .tc))) :
    valE m c (Proc.devRef .tc b) = m ((c.tc : Thread nD τ).loc b) := by
  simp only [List.mem_cons, List.not_mem_nil, or_false, not_or] at hb
  obtain ⟨h0, h0', h1, h2, h3, h4, h5, h6, h7, h8, h9, h10⟩ := hb
  unfold valE
  rw [after2_keep _ _ _ h10, valD_keep m c b (by simp [*])]
  unfold valC
  rw [after1_keep _ _ _ h3, valB_keep m c b h1 h2, valA_other m c _ (StableHlo.devRef_ne_of_ne h0) (StableHlo.devRef_ne_of_ne h0')]

/-! ## What the final memory holds -/

/-- The result and the arguments, at the contents at the end. -/
def fq (d : Dev nD) (s' : Phys nD τ sig (Elt F)) : Prop :=
  ∀ b ∈ Pipeline.ucRefs τ sig, s'.mem.mem (d, b) = valE m d b

theorem held_agree (d : Dev nD) (S : Finset (DevRef τ sig)) (W : Valuation τ sig (Elt F)) (s' : Phys nD τ sig (Elt F)) :
    iprop(StableHlo.held (SparseCore.T d : Thread nD τ) S W ∗ SI s') ⊢ (⌜∀ b ∈ S, s'.mem.mem (d, b) = W b⌝ : sProp 𝕄) := by
  classical
  induction S using Finset.induction_on with
  | empty =>
    iintro -
    ipureintro
    intro b hb; simp at hb
  | insert b S hb ih =>
    unfold StableHlo.held at ih ⊢
    rw [SparseCore.bigSep_insert' hb]
    iintro ⟨⟨Hb, HS⟩, HSI⟩
    ihave H := (persistent_entails_right (SI_pointsTo_agree (st := s') (ℓ := (d, b)) (I := Finset.univ) (q := fullShare) (f := W b))) $$ [HSI Hb]
    · isplitl [HSI] <;> iassumption
    icases H with ⟨%h1, HSI, -⟩
    ihave H := ih $$ [HSI HS]
    · isplitl [HS] <;> iassumption
    icases H with %h2
    ipureintro
    intro b' hb'
    rcases Finset.mem_insert.mp hb' with rfl | h
    · exact funext fun i => h1 i (Finset.mem_univ i)
    · exact h2 b' h

theorem hfin (d : Dev nD) (s' : Phys nD τ sig (Elt F)) : iprop(FIN m d ∗ SI s') ⊢ (⌜fq m d s'⌝ : sProp 𝕄) :=
  held_agree d (Pipeline.ucRefs τ sig) (valE m d) s'

/-- The memory at the end: every unscoped buffer at its contents, every semaphore counter zero. -/
def QC : PUnit × MemSt nD τ sig (Elt F) → Prop :=
  fun r => (∀ d : Dev nD, ∀ b ∈ Pipeline.ucRefs τ sig, r.2.mem (d, b) = valE m d b) ∧ r.2.sem = fun _ => 0

/-- The program runs, and ends in such a memory. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (G (F := F)) (FIN m) (u₀ (F := F)) (sep_elim_left.trans (hu₀ m)) (hmain m ρ) (fq m) (hfin m) (QC m) (fun _ h hz => ⟨h, hz⟩)

/-- An argument is at the end as at the launch. -/
theorem QC_arg {r : PUnit × MemSt nD τ sig (Elt F)} (h : QC m r) (c : Dev nD) (b : Ref sig .tc) (hs : b.isScoped = false)
    (hb : b ∉ ([main_v0_0, main_v0_1, main_v1, main_v2, main_v3, main_v4, main_v5, main_v6, main_v7, main_v8, main_v9, main_v10] : List (Ref sig .tc))) :
    r.2.mem ((c.tc : Thread nD τ).loc b) = m ((c.tc : Thread nD τ).loc b) :=
  (h.1 c _ (Pipeline.devRef_mem_ucRefs hs)).trans (valE_keep m c b hb)

/-- The fifteen arguments are at the end as at the launch. -/
theorem QC_args {r : PUnit × MemSt nD τ sig (Elt F)} (h : QC m r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11)
    ∧ r.2.mem ((c.tc : Thread nD τ).loc main_arg12) = m ((c.tc : Thread nD τ).loc main_arg12)
    ∧ r.2.mem ((c.tc : Thread nD τ).loc main_arg13) = m ((c.tc : Thread nD τ).loc main_arg13)
    ∧ r.2.mem ((c.tc : Thread nD τ).loc main_arg14) = m ((c.tc : Thread nD τ).loc main_arg14) :=
  ⟨QC_arg m h c main_arg0 rfl (by decide), QC_arg m h c main_arg1 rfl (by decide), QC_arg m h c main_arg2 rfl (by decide), QC_arg m h c main_arg3 rfl (by decide), QC_arg m h c main_arg4 rfl (by decide), QC_arg m h c main_arg5 rfl (by decide), QC_arg m h c main_arg6 rfl (by decide), QC_arg m h c main_arg7 rfl (by decide), QC_arg m h c main_arg8 rfl (by decide), QC_arg m h c main_arg9 rfl (by decide), QC_arg m h c main_arg10 rfl (by decide), QC_arg m h c main_arg11 rfl (by decide), QC_arg m h c main_arg12 rfl (by decide), QC_arg m h c main_arg13 rfl (by decide), QC_arg m h c main_arg14 rfl (by decide)⟩

end Cert.Proof.IdealRun

end
-- ==== Proof.Frames.lean ====
/-
The three frames (the kernel, the idealized kernel and the idealized reference run, leave their arguments alone and end with every semaphore counter at
zero) and the equation of the named constant with the word the kernel prints.
-/
module

public import proofs.«01_k».proof.Proof.Pre
public import proofs.«01_k».proof.Proof.PlainRun.Frame
public import proofs.«01_k».proof.Proof.IdealRun.Frame
public import proofs.«01_k».proof.Proof.Gen.ReferenceIdeal.Run

@[expose] public section

noncomputable section

namespace Cert.Proof.Frames

open Idealize.ShloMosaic Idealize.SL.Sem

/-- The kernel runs, and its arguments and counters end as claimed. -/
theorem kernel : Cert.quiescent_Kernel := fun m ρ hpre =>
  (θ_run Cert.Kernel.defs _ _).mono (fun _ h => ⟨fun c => PlainRun.QC_args m h c, h.2⟩)
    (PlainRun.run_main (F := Bits) m ρ (Pre.kernel_text m hpre))

/-- The idealized kernel runs, and its arguments and counters end as claimed. -/
theorem ideal : Cert.quiescent_KernelIdeal := fun m ρ hpre =>
  (θ_run Cert.KernelIdeal.defs _ _).mono (fun _ h => ⟨fun c => IdealRun.QC_args m h c, h.2⟩)
    (IdealRun.run_main (F := Ideal) m ρ (Pre.ideal_text m hpre))

/-- The idealized reference runs, and its arguments and counters end as claimed: it has no semaphore. -/
theorem reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same, of arguments in range. -/
theorem reference_in_range : Cert.quiescent_ReferenceIdeal_pre_in_range := fun m ρ _ => reference m ρ trivial

/-- The named constant stands for the word the kernel prints. -/
theorem preserves : Cert.preserves_Kernel_KernelIdeal :=
  IdealRules.named_const.statement Cert.KernelIdeal.κ "inv_count" .f32 0x36579409#32 ((311297⁻¹ : ℝ) : EReal) rfl

end Cert.Proof.Frames

end
-- ==== Proof.IdealRun.Blocks.lean ====
/-
The blocks the two pipelines read, entry by entry, and the arrays they leave.
-/
module

public import proofs.«01_k».proof.Proof.IdealRun.Region1
public import proofs.«01_k».proof.Proof.IdealRun.Region2
public import Idealize.ShloMosaic.Lib.Pointwise

@[expose] public section

noncomputable section

namespace Cert.Proof.IdealRun

open Cert.KernelIdeal Cert.KernelIdeal.Gen

open Idealize.ShloMosaic
open Idealize.ShloMosaic.TcCoe
open Idealize.ShloMosaic.Pipeline (Dat)

variable {F : FTy → Type} [FloatOps F] [Named F]

/-! ## The first pipeline's blocks -/

theorem index1_0 : ∀ t : Fin grid1.N, win1_0.index t 0 = 0 ∧ win1_0.index t 1 = t.val ∧ win1_0.index t 2 = 0 ∧ win1_0.index t 3 = 0 := by decide
theorem index1_1 : ∀ t : Fin grid1.N, win1_1.index t 0 = t.val ∧ win1_1.index t 1 = 0 := by decide

/-- Block `t` of the counts: for each worker, positions `10000 t` on. -/
theorem hBlk_apply (X : S32x10x1x10000.Idx → F .f32) (t : Fin cfg1.N) (j : S32x1x1x10000.Idx) :
    hBlk X t j = X (ix4 (j 0) ⟨t.val, t.isLt⟩ 0 (j 3)) := by
  have hi := index1_0 t
  refine (View.read_apply _ _).trans (congrArg X (funext fun a => Fin.ext ?_))
  match a with
  | ⟨0, _⟩ => show win1_0.index t 0 * 32 + 1 * (j 0).val = (j 0).val; rw [hi.1]; omega
  | ⟨1, _⟩ => show win1_0.index t 1 * 1 + 1 * (j 1).val = t.val; have := (j 1).isLt; change (j 1).val < 1 at this; rw [hi.2.1]; omega
  | ⟨2, _⟩ => show win1_0.index t 2 * 1 + 1 * (j 2).val = 0; have := (j 2).isLt; change (j 2).val < 1 at this; rw [hi.2.2.1]; omega
  | ⟨3, _⟩ => show win1_0.index t 3 * 10000 + 1 * (j 3).val = (j 3).val; rw [hi.2.2.2]; omega

/-- Block `t` of the table: rows `10000 t` on. -/
theorem eBlk_apply (Y : S100000x128.Idx → F .f32) (t : Fin cfg1.N) (j : S10000x128.Idx) (v : Fin 100000) (hv : v.val = 10000 * t.val + (j 0).val) :
    eBlk Y t j = Y (ix2 v (j 1)) := by
  have hi := index1_1 t
  refine (View.read_apply _ _).trans (congrArg Y (funext fun a => Fin.ext ?_))
  match a with
  | ⟨0, _⟩ => show win1_1.index t 0 * 10000 + 1 * (j 0).val = v.val; rw [hi.1, hv]; omega
  | ⟨1, _⟩ => show win1_1.index t 1 * 128 + 1 * (j 1).val = (j 1).val; rw [hi.2]; omega

/-- The one row's block is the row. -/
theorem rBlk_eq (X : S1x128.Idx → F .f32) (t : Fin cfg1.N) : rBlk X t = X := by
  have hz : (fun a => win1_2.index t a * main_v2.ty.shape.size a) = fun _ => 0 :=
    funext fun a => match a with | ⟨0, _⟩ => Nat.zero_mul _ | ⟨1, _⟩ => Nat.zero_mul _
  exact Memref.read_access_unit_zero (Elt F) main_v2 hz (fun a => by rw [congrFun hz a]; simp) X

/-! ## The array the first pipeline leaves -/

section One

variable (V : Dev nD → Valuation τ sig (Elt F)) (c : Dev nD)

/-- The mean row. -/
abbrev meanRow : Vec F S1x128 .f32 := k1_pay4 (acc (inH V c) (inE V c) 9) (rBlk (inR V c) (pt 9))

theorem flushed1 (t : Fin cfg1.N) (hf : (cfg1.win 3).flush t = true) :
    (dat1 V c).flushed 3 t = ((cfg1.win 3).blk t).view.read (Elt F) (meanRow V c) := by
  have hz : (fun a => win1_3.index t a * main_v3.ty.shape.size a) = fun _ => 0 :=
    funext fun a => match a with | ⟨0, _⟩ => Nat.zero_mul _ | ⟨1, _⟩ => Nat.zero_mul _
  exact (Memref.read_access_unit_zero (Elt F) main_v3 hz (fun a => by rw [congrFun hz a]; simp) (meanRow V c)).symm

/-- The first pipeline leaves the mean row. -/
theorem final1 : (dat1 V c).arrAt 3 cfg1.N = meanRow V c :=
  (dat1 V c).arrAt_eq_of_cover 3 (meanRow V c) (flushed1 V c) fun i =>
    ⟨t1_9, (flush1_3 t1_9).mpr rfl, by
      show i ∈ ((View.whole main_v3).slice (win1_3.rect t1_9)).set
      rw [View.set_slice_whole, Rect.mem_set_unit]
      intro a
      have h0 : (i 0 : Nat) < 1 := (i 0).isLt
      have h1 : (i 1 : Nat) < 128 := (i 1).isLt
      match a with
      | ⟨0, _⟩ => show win1_3.index t1_9 0 * win1_3.size 0 ≤ (i 0 : Nat) ∧ (i 0 : Nat) < win1_3.index t1_9 0 * win1_3.size 0 + win1_3.xsize (grid1.coords t1_9) 0
                  rw [show win1_3.index t1_9 0 * win1_3.size 0 = 0 from by decide +kernel, show win1_3.xsize (grid1.coords t1_9) 0 = 1 from by decide +kernel]; omega
      | ⟨1, _⟩ => show win1_3.index t1_9 1 * win1_3.size 1 ≤ (i 1 : Nat) ∧ (i 1 : Nat) < win1_3.index t1_9 1 * win1_3.size 1 + win1_3.xsize (grid1.coords t1_9) 1
                  rw [show win1_3.index t1_9 1 * win1_3.size 1 = 0 from by decide +kernel, show win1_3.xsize (grid1.coords t1_9) 1 = 128 from by decide +kernel]; omega⟩

end One

/-! ## The second pipeline -/

section Two

variable (V : Dev nD → Valuation τ sig (Elt F)) (c : Dev nD) (t : Fin cfg2.N)

theorem index2_0 : ∀ t : Fin grid2.N, win2_0.index t 0 = t.val ∧ win2_0.index t 1 = 0 := by decide
theorem index2_14 : ∀ t : Fin grid2.N, win2_14.index t 0 = t.val ∧ win2_14.index t 1 = 0 := by decide
theorem coord2 : ∀ t : Fin grid2.N, (grid2.coords t 0).val = t.val := by decide

/-- Block `t` of the gathered rows: rows `1024 t` on. -/
theorem in0_apply (r : Fin 1024) (k : Fin 128) (b : Fin 16384) (hb : b.val = 1024 * t.val + r.val) :
    in0 V c t (ix2 r k) = V c (Proc.devRef .tc main_v0_0) (ix2 b k) := by
  have hi := index2_0 t
  refine (View.read_apply _ _).trans (congrArg (V c (Proc.devRef .tc main_v0_0)) (funext fun a => Fin.ext ?_))
  match a with
  | ⟨0, _⟩ => show win2_0.index t 0 * 1024 + 1 * r.val = b.val; rw [hi.1, hb]; omega
  | ⟨1, _⟩ => show win2_0.index t 1 * 128 + 1 * k.val = k.val; rw [hi.2]; omega

/-! The other inputs are whole arrays. -/

theorem in1_eq : in1 V c t = V c (Proc.devRef .tc main_v3) := by
  have hz : (fun a => win2_1.index t a * main_v3.ty.shape.size a) = fun _ => 0 :=
    funext fun a => match a with | ⟨0, _⟩ => Nat.zero_mul _ | ⟨1, _⟩ => Nat.zero_mul _
  exact Memref.read_access_unit_zero (Elt F) main_v3 hz (fun a => by rw [congrFun hz a]; simp) (V c (Proc.devRef .tc main_v3))
theorem in2_eq : in2 V c t = V c (Proc.devRef .tc main_arg3) := by
  have hz : (fun a => win2_2.index t a * main_arg3.ty.shape.size a) = fun _ => 0 :=
    funext fun a => match a with | ⟨0, _⟩ => Nat.zero_mul _ | ⟨1, _⟩ => Nat.zero_mul _
  exact Memref.read_access_unit_zero (Elt F) main_arg3 hz (fun a => by rw [congrFun hz a]; simp) (V c (Proc.devRef .tc main_arg3))
theorem in3_eq : in3 V c t = V c (Proc.devRef .tc main_v4) := by
  have hz : (fun a => win2_3.index t a * main_v4.ty.shape.size a) = fun _ => 0 :=
    funext fun a => match a with | ⟨0, _⟩ => Nat.zero_mul _ | ⟨1, _⟩ => Nat.zero_mul _
  exact Memref.read_access_unit_zero (Elt F) main_v4 hz (fun a => by rw [congrFun hz a]; simp) (V c (Proc.devRef .tc main_v4))
theorem in4_eq : in4 V c t = V c (Proc.devRef .tc main_arg5) := by
  have hz : (fun a => win2_4.index t a * main_arg5.ty.shape.size a) = fun _ => 0 :=
    funext fun a => match a with | ⟨0, _⟩ => Nat.zero_mul _ | ⟨1, _⟩ => Nat.zero_mul _
  exact Memref.read_access_unit_zero (Elt F) main_arg5 hz (fun a => by rw [congrFun hz a]; simp) (V c (Proc.devRef .tc main_arg5))
theorem in5_eq : in5 V c t = V c (Proc.devRef .tc main_v5) := by
  have hz : (fun a => win2_5.index t a * main_v5.ty.shape.size a) = fun _ => 0 :=
    funext fun a => match a with | ⟨0, _⟩ => Nat.zero_mul _ | ⟨1, _⟩ => Nat.zero_mul _
  exact Memref.read_access_unit_zero (Elt F) main_v5 hz (fun a => by rw [congrFun hz a]; simp) (V c (Proc.devRef .tc main_v5))
theorem in6_eq : in6 V c t = V c (Proc.devRef .tc main_arg7) := by
  have hz : (fun a => win2_6.index t a * main_arg7.ty.shape.size a) = fun _ => 0 :=
    funext fun a => match a with | ⟨0, _⟩ => Nat.zero_mul _ | ⟨1, _⟩ => Nat.zero_mul _
  exact Memref.read_access_unit_zero (Elt F) main_arg7 hz (fun a => by rw [congrFun hz a]; simp) (V c (Proc.devRef .tc main_arg7))
theorem in7_eq : in7 V c t = V c (Proc.devRef .tc main_v6) := by
  have hz : (fun a => win2_7.index t a * main_v6.ty.shape.size a) = fun _ => 0 :=
    funext fun a => match a with | ⟨0, _⟩ => Nat.zero_mul _ | ⟨1, _⟩ => Nat.zero_mul _
  exact Memref.read_access_unit_zero (Elt F) main_v6 hz (fun a => by rw [congrFun hz a]; simp) (V c (Proc.devRef .tc main_v6))
theorem in8_eq : in8 V c t = V c (Proc.devRef .tc main_arg9) := by
  have hz : (fun a => win2_8.index t a * main_arg9.ty.shape.size a) = fun _ => 0 :=
    funext fun a => match a with | ⟨0, _⟩ => Nat.zero_mul _ | ⟨1, _⟩ => Nat.zero_mul _
  exact Memref.read_access_unit_zero (Elt F) main_arg9 hz (fun a => by rw [congrFun hz a]; simp) (V c (Proc.devRef .tc main_arg9))
theorem in9_eq : in9 V c t = V c (Proc.devRef .tc main_v7) := by
  have hz : (fun a => win2_9.index t a * main_v7.ty.shape.size a) = fun _ => 0 :=
    funext fun a => match a with | ⟨0, _⟩ => Nat.zero_mul _ | ⟨1, _⟩ => Nat.zero_mul _
  exact Memref.read_access_unit_zero (Elt F) main_v7 hz (fun a => by rw [congrFun hz a]; simp) (V c (Proc.devRef .tc main_v7))
theorem in10_eq : in10 V c t = V c (Proc.devRef .tc main_arg11) := by
  have hz : (fun a => win2_10.index t a * main_arg11.ty.shape.size a) = fun _ => 0 :=
    funext fun a => match a with | ⟨0, _⟩ => Nat.zero_mul _ | ⟨1, _⟩ => Nat.zero_mul _
  exact Memref.read_access_unit_zero (Elt F) main_arg11 hz (fun a => by rw [congrFun hz a]; simp) (V c (Proc.devRef .tc main_arg11))
theorem in11_eq : in11 V c t = V c (Proc.devRef .tc main_v8) := by
  have hz : (fun a => win2_11.index t a * main_v8.ty.shape.size a) = fun _ => 0 :=
    funext fun a => match a with | ⟨0, _⟩ => Nat.zero_mul _ | ⟨1, _⟩ => Nat.zero_mul _
  exact Memref.read_access_unit_zero (Elt F) main_v8 hz (fun a => by rw [congrFun hz a]; simp) (V c (Proc.devRef .tc main_v8))
theorem in12_eq : in12 V c t = V c (Proc.devRef .tc main_arg13) := by
  have hz : (fun a => win2_12.index t a * main_arg13.ty.shape.size a) = fun _ => 0 :=
    funext fun a => match a with | ⟨0, _⟩ => Nat.zero_mul _ | ⟨1, _⟩ => Nat.zero_mul _
  exact Memref.read_access_unit_zero (Elt F) main_arg13 hz (fun a => by rw [congrFun hz a]; simp) (V c (Proc.devRef .tc main_arg13))
theorem in13_eq : in13 V c t = V c (Proc.devRef .tc main_v9) := by
  have hz : (fun a => win2_13.index t a * main_v9.ty.shape.size a) = fun _ => 0 :=
    funext fun a => match a with | ⟨0, _⟩ => Nat.zero_mul _ | ⟨1, _⟩ => Nat.zero_mul _
  exact Memref.read_access_unit_zero (Elt F) main_v9 hz (fun a => by rw [congrFun hz a]; simp) (V c (Proc.devRef .tc main_v9))

/-- The second pipeline's array: row `b` is row `b % 1024` of what point `b / 1024` leaves. -/
def outF : S16384x100.Idx → F .f32 := fun x =>
  out14 V c ⟨(x 0).val / 1024, by have h : (x 0).val < 16384 := (x 0).isLt; rw [show cfg2.N = 16 from N_2]; omega⟩
    (ix2 ⟨(x 0).val % 1024, Nat.mod_lt _ (by decide)⟩ (x 1))

theorem outF_at (x : S16384x100.Idx) (j : S1024x100.Idx) (h0 : (x 0).val = 1024 * t.val + (j 0).val) (h1 : (x 1).val = (j 1).val) :
    outF V c x = out14 V c t j := by
  have hj : (j 0).val < 1024 := (j 0).isLt
  refine congr (congrArg (out14 V c) (Fin.ext ?_)) (funext fun a => Fin.ext ?_)
  · show (x 0).val / 1024 = t.val; omega
  · match a with
    | ⟨0, _⟩ => show (x 0).val % 1024 = (j 0).val; omega
    | ⟨1, _⟩ => exact h1

theorem flushed2 (hf : (cfg2.win 14).flush t = true) :
    (dat2 V c).flushed 14 t = ((cfg2.win 14).blk t).view.read (Elt F) (outF V c) := by
  have hi := index2_14 t
  funext j
  refine Eq.symm ((View.read_apply _ _).trans (outF_at V c t _ j ?_ ?_))
  · show win2_14.index t 0 * 1024 + 1 * (j 0).val = _; rw [hi.1]; omega
  · show win2_14.index t 1 * 100 + 1 * (j 1).val = _; rw [hi.2]; omega

/-- The second pipeline leaves it. -/
theorem final2 : (dat2 V c).arrAt 14 cfg2.N = outF V c :=
  (dat2 V c).arrAt_eq_of_cover 14 (outF V c) (fun t hf => flushed2 V c t hf) fun i => by
    have h0 : (i 0 : Nat) < 16384 := (i 0).isLt
    have h1 : (i 1 : Nat) < 100 := (i 1).isLt
    have hN : (i 0 : Nat) / 1024 < grid2.N := by rw [N_2]; omega
    have hi := index2_14 ⟨(i 0 : Nat) / 1024, hN⟩
    refine ⟨⟨(i 0 : Nat) / 1024, hN⟩, flush2_14 _, ?_⟩
    show i ∈ ((View.whole main_v10).slice (win2_14.rect ⟨(i 0 : Nat) / 1024, hN⟩)).set
    rw [View.set_slice_whole, Rect.mem_set_unit]
    intro a
    match a with
    | ⟨0, _⟩ => show win2_14.index ⟨(i 0 : Nat) / 1024, hN⟩ 0 * 1024 ≤ (i 0 : Nat) ∧ (i 0 : Nat) < win2_14.index ⟨(i 0 : Nat) / 1024, hN⟩ 0 * 1024 + 1024
                rw [hi.1]; show (i 0 : Nat) / 1024 * 1024 ≤ _ ∧ _ < (i 0 : Nat) / 1024 * 1024 + 1024; omega
    | ⟨1, _⟩ => show win2_14.index ⟨(i 0 : Nat) / 1024, hN⟩ 1 * 100 ≤ (i 1 : Nat) ∧ (i 1 : Nat) < win2_14.index ⟨(i 0 : Nat) / 1024, hN⟩ 1 * 100 + 100
                rw [hi.2]; omega

end Two

end Cert.Proof.IdealRun

end
-- ==== Proof.Weighted.lean ====
/-
Counting occurrences and then weighting the counts is summing the weights of the occurrences; a sum over blocks is a sum over all positions.
-/
module

public import Idealize.ShloMosaic.PureOps.Ideal.Laws

@[expose] public section

noncomputable section

namespace Cert.Proof.Weighted

/-- How often `v` occurs among the first `K` of `t`. -/
def occ (t : ℕ → ℕ) (K v : ℕ) : EReal := ∑ k ∈ Finset.range K, if t k = v then 1 else 0

theorem occ_nonneg (t : ℕ → ℕ) (K v : ℕ) : 0 ≤ occ t K v :=
  Finset.sum_nonneg fun k _ => by split <;> simp

/-- The occurrences of every value below `N`, weighted, sum to the weights of what occurs. -/
theorem sum_occ (t : ℕ → ℕ) (e : ℕ → EReal) (N K : ℕ) (ht : ∀ k, t k < N) :
    ∑ v ∈ Finset.range N, occ t K v * e v = ∑ k ∈ Finset.range K, e (t k) := by
  induction K with
  | zero => simp [occ]
  | succ K ih =>
    rw [Finset.sum_range_succ, ← ih]
    have hs : ∀ v, occ t (K + 1) v * e v = occ t K v * e v + if v = t K then e (t K) else 0 := fun v => by
      have h1 : occ t (K + 1) v = occ t K v + if t K = v then 1 else 0 := by
        unfold occ
        rw [Finset.sum_range_succ]
      rw [h1, EReal.right_distrib_of_nonneg (occ_nonneg t K v) (by split <;> simp)]
      congr 1
      by_cases h : t K = v
      · rw [if_pos h, if_pos h.symm, one_mul, h]
      · rw [if_neg h, if_neg fun q => h q.symm, zero_mul]
    rw [Finset.sum_congr rfl fun v _ => hs v, Finset.sum_add_distrib, Finset.sum_ite_eq' (Finset.range N) (t K), if_pos (Finset.mem_range.2 (ht K))]

/-- A sum over `A` blocks of `B` is a sum over `B * A` positions. -/
theorem sum_blocks (A B : ℕ) (f : ℕ → EReal) :
    ∑ i ∈ Finset.range A, ∑ u ∈ Finset.range B, f (B * i + u) = ∑ v ∈ Finset.range (B * A), f v := by
  induction A with
  | zero => simp
  | succ A ih => rw [Finset.sum_range_succ, ih, Nat.mul_succ, Finset.sum_range_add]

end Cert.Proof.Weighted

end
-- ==== Proof.IdealRun.Hist.lean ====
/-
What a worker's counts are, over the extended reals: at `v`, how often `v` occurs among the worker's tokens.
-/
module

public import proofs.«01_k».proof.Proof.IdealRun.Setup
public import proofs.«01_k».proof.Proof.Weighted
public import Idealize.ShloMosaic.Lib.IdealHost

@[expose] public section

noncomputable section

namespace Cert.Proof.IdealRun

open Cert.KernelIdeal Cert.KernelIdeal.Gen

open Idealize.ShloMosaic Cert.Proof.Weighted

/-- Storing ones with addition, lane by lane, adds at `j` one for each lane that names `j`. -/
theorem foldl_lanes {s : Shape} (p : Fin 16 → s.Idx → Prop) [∀ k j, Decidable (p k j)] (step : Vec Ideal s .f32 → Fin 16 → Vec Ideal s .f32)
    (hstep : ∀ g k j, step g k j = g j + if p k j then (1 : EReal) else 0) (l : List (Fin 16)) (f : Vec Ideal s .f32) (j : s.Idx) :
    l.foldl step f j = f j + (l.map fun k => if p k j then (1 : EReal) else 0).sum := by
  induction l generalizing f with
  | nil => simp
  | cons a l ih => rw [List.foldl_cons, ih, hstep, List.map_cons, List.sum_cons, add_assoc]

/-- One scatter-add of sixteen ones. -/
theorem storeIdx_ones (f : Vec Ideal S100000 .f32) (ix : IVec S16 32) (h : k0_chk1 ix) (j : S100000.Idx) :
    storeIdx f ![ix] (k0_pay2 (F := Ideal)) (fun _ => 1#1) true (k0_idx1_inb ix h) j
      = f j + ∑ k : Fin 16, if (ix (ValueIdx.ix1 k)).toNat = (j 0).val then (1 : EReal) else 0 := by
  unfold storeIdx
  refine (foldl_lanes (fun k j => (ix (ValueIdx.ix1 k)).toNat = (j 0).val) _ (fun g k j => ?_) (List.finRange 16) f j).trans ?_
  · have hk : (Shape.ofLane (d := ![16]) k : S16.Idx) = ValueIdx.ix1 k := funext fun a => match a with | ⟨0, _⟩ => Fin.ext rfl
    have hall : (∀ a : Fin 1, (j a).val = (idxAt (s := S100000) (t := S16) ![ix] (k0_idx1_inb ix h) (Shape.ofLane (d := ![16]) k) a).val)
        ↔ (ix (ValueIdx.ix1 k)).toNat = (j 0).val := by
      rw [hk]
      constructor
      · intro q; exact (q 0).symm
      · intro q a
        obtain rfl : a = 0 := Subsingleton.elim _ _
        exact q.symm
    have h1 : (k0_pay2 (F := Ideal)) (Shape.ofLane (d := ![16]) k) = (1 : EReal) := Ideal.ofBits_one_f32
    refine (congrFun (if_pos rfl) j).trans ?_
    by_cases q : (ix (ValueIdx.ix1 k)).toNat = (j 0).val
    · have hj : idxAt (s := S100000) (t := S16) ![ix] (k0_idx1_inb ix h) (Shape.ofLane (d := ![16]) k) = j :=
        funext fun a => Fin.ext ((hall.2 q) a).symm
      refine (if_pos (hall.2 q)).trans ?_
      rw [if_pos q]
      exact congrArg₂ (fun a b : EReal => a + b) (congrArg g hj) h1
    · refine (if_neg fun r => q (hall.1 r)).trans ?_
      rw [if_neg q]
      exact (add_zero _).symm
  · rw [← Fin.sum_univ_def]

/-- A list's entries, continued periodically. -/
def ent (l : S9728.Idx → BitVec 32) (k : ℕ) : ℕ := (l (ValueIdx.ix1 ⟨k % 9728, Nat.mod_lt _ (by decide)⟩)).toNat

theorem chunk_eq (l : S9728.Idx → BitVec 32) (n : ℕ) (k : Fin 16) : (chunk l n (ValueIdx.ix1 k)).toNat = ent l (16 * n + k.val) := by
  unfold chunk ent
  refine congrArg (fun q => (l q).toNat) (funext fun a => ?_)
  match a with
  | ⟨0, _⟩ => rfl

/-- A worker's counts before trip `n`: the occurrences among its first `16 n` tokens. -/
theorem bins_apply (l : S9728.Idx → BitVec 32) (hl : ∀ k, (l k).toNat < 100000) (n : ℕ) (j : S100000.Idx) :
    bins (F := Ideal) l n j = occ (ent l) (16 * n) (j 0).val := by
  induction n generalizing j with
  | zero =>
    unfold occ
    rw [Nat.mul_zero, Finset.range_zero, Finset.sum_empty]
    exact Ideal.ofBits_zero_f32
  | succ n ih =>
    have hc : k0_chk1 (chunk l n) := fun a x => by
      obtain rfl : a = 0 := Subsingleton.elim _ _
      exact hl _
    rw [bins, dif_pos hc, storeIdx_ones _ _ hc, ih]
    unfold occ
    rw [Nat.mul_succ, Finset.sum_range_add]
    congr 1
    rw [← Fin.sum_univ_eq_sum_range (fun k => if ent l (16 * n + k) = (j 0).val then (1 : EReal) else 0) 16]
    exact Finset.sum_congr rfl fun k _ => by rw [chunk_eq]

/-- Token `n`, as a number. -/
def tokN (txt : S327680.Idx → BitVec 32) (n : ℕ) : ℕ := (txt (tokIx n)).toNat

/-- Worker `w`'s counts at `v`. -/
theorem histF_apply (txt : S327680.Idx → BitVec 32) (ht : ∀ j, (txt j).toNat < 100000) (x : S32x100000.Idx) :
    histF (F := Ideal) txt x = occ (fun k => tokN txt (16384 + (9728 * (x 0).val + k))) 9728 (x 1).val := by
  unfold histF
  refine (bins_apply (lst txt (x 0).val) (fun k => ht _) 608 _).trans ?_
  unfold occ
  refine Finset.sum_congr rfl fun k hk => ?_
  have h : ent (lst txt (x 0).val) k = tokN txt (16384 + (9728 * (x 0).val + k)) := by
    unfold ent lst tokN
    have hk' : k % 9728 = k := Nat.mod_eq_of_lt (by simpa using hk)
    show (txt (tokIx (9728 * (x 0).val + 16384 + k % 9728))).toNat = _
    rw [hk', show 9728 * (x 0).val + 16384 + k = 16384 + (9728 * (x 0).val + k) by omega]
  rw [h]

end Cert.Proof.IdealRun

end
-- ==== Proof.IdealRun.SumValue.lean ====
/-
The body of the histogram-times-table sum, entry by entry.
-/
module

public import proofs.«01_k».proof.Proof.IdealRun.Region1
public import proofs.«01_k».proof.Proof.Weighted
public import Idealize.ShloMosaic.Lib.Pointwise

@[expose] public section

noncomputable section

namespace Cert.Proof.IdealRun

open Cert.KernelIdeal Cert.KernelIdeal.Gen

open Idealize.ShloMosaic

/-- One block's products. -/
theorem pay1_apply (X : FVec Ideal S32x1x1x10000 .f32) (Y : FVec Ideal S10000x128 .f32) (w : Fin 32) (j : Fin 128) :
    k1_pay1 (F := Ideal) X Y (ix2 w j) = ∑ u : Fin 10000, X (ix4 w 0 0 u) * Y (ix2 u j) := by
  pointwise [k1_pay1]

theorem pay2_apply (X : FVec Ideal S32x1x1x10000 .f32) (Y : FVec Ideal S10000x128 .f32) (w : Fin 32) (j : Fin 128) :
    k1_pay2 (F := Ideal) X Y (ix2 w j) = k1_pay1 (F := Ideal) X Y (ix2 w j) := by
  pointwise [k1_pay2]

theorem pay3_apply (X : FVec Ideal S32x1x1x10000 .f32) (Y : FVec Ideal S10000x128 .f32) (A : FVec Ideal S32x128 .f32) (w : Fin 32) (j : Fin 128) :
    k1_pay3 (F := Ideal) X Y A (ix2 w j) = A (ix2 w j) + k1_pay1 (F := Ideal) X Y (ix2 w j) := by
  pointwise [k1_pay3]

/-- The named constant's value. -/
theorem inv_count : (Named.named (F := Ideal) κ "inv_count" (φ := .f32) 0x36579409#32 : EReal) = ((311297⁻¹ : ℝ) : EReal) :=
  IdealRules.named_const.ideal_named_scalar _ _ _ _ rfl

/-- The mean: all workers' sums, one more row, times the named constant. -/
theorem pay4_apply (A : FVec Ideal S32x128 .f32) (R : FVec Ideal S1x128 .f32) (j : Fin 128) :
    k1_pay4 (F := Ideal) A R (ix2 0 j) = ((∑ w : Fin 32, A (ix2 w j)) + R (ix2 0 j)) * ((311297⁻¹ : ℝ) : EReal) := by
  rw [← inv_count]
  pointwise [k1_pay4]

end Cert.Proof.IdealRun

end
-- ==== Proof.IdealRun.MeanValue.lean ====
/-
The mean row: the sum of the embeddings of the last bag, over their number.
-/
module

public import proofs.«01_k».proof.Proof.IdealRun.Blocks
public import proofs.«01_k».proof.Proof.IdealRun.Hist
public import proofs.«01_k».proof.Proof.IdealRun.SumValue

@[expose] public section

noncomputable section

namespace Cert.Proof.IdealRun

open Cert.KernelIdeal Cert.KernelIdeal.Gen Cert.Proof.Weighted

open Idealize.ShloMosaic

theorem ix2_embIx (v : Fin 100000) (j : Fin 128) : (ix2 v j : S100000x128.Idx) = embIx v.val j :=
  funext fun a => Fin.ext (match a with | ⟨0, _⟩ => (Nat.mod_eq_of_lt v.isLt).symm | ⟨1, _⟩ => rfl)

/-- One block's products, of counts `cnt` and the table's column `j`. -/
theorem block_apply (X : S32x10x1x10000.Idx → Ideal .f32) (Y : S100000x128.Idx → Ideal .f32) (w : Fin 32) (j : Fin 128) (cnt : ℕ → EReal)
    (hX : ∀ (i : Fin 10) (u : Fin 10000), X (ix4 w i 0 u) = cnt (10000 * i.val + u.val)) (t : Fin cfg1.N) :
    k1_pay1 (F := Ideal) (hBlk X t) (eBlk Y t) (ix2 w j)
      = ∑ u ∈ Finset.range 10000, cnt (10000 * t.val + u) * Y (embIx (10000 * t.val + u) j) := by
  have ht : t.val < 10 := t.isLt
  rw [pay1_apply, ← Fin.sum_univ_eq_sum_range (fun u => cnt (10000 * t.val + u) * Y (embIx (10000 * t.val + u) j))]
  refine Finset.sum_congr rfl fun u _ => ?_
  have hu := u.isLt
  rw [hBlk_apply, eBlk_apply Y t (ix2 u j) ⟨10000 * t.val + u.val, by omega⟩ rfl]
  exact congr (congrArg _ (hX ⟨t.val, t.isLt⟩ u)) (congrArg Y (ix2_embIx _ j))

/-- The accumulator after point `n`: the products of the first `n + 1` blocks. -/
theorem acc_apply (X : S32x10x1x10000.Idx → Ideal .f32) (Y : S100000x128.Idx → Ideal .f32) (w : Fin 32) (j : Fin 128) (cnt : ℕ → EReal)
    (hX : ∀ (i : Fin 10) (u : Fin 10000), X (ix4 w i 0 u) = cnt (10000 * i.val + u.val)) (n : ℕ) (hn : n < 10) :
    acc (F := Ideal) X Y n (ix2 w j)
      = ∑ i ∈ Finset.range (n + 1), ∑ u ∈ Finset.range 10000, cnt (10000 * i + u) * Y (embIx (10000 * i + u) j) := by
  induction n with
  | zero => rw [acc, pay2_apply, block_apply X Y w j cnt hX, Finset.sum_range_one]; rfl
  | succ n ih =>
    rw [acc, pay3_apply, ih (by omega), block_apply X Y w j cnt hX, Finset.sum_range_succ _ (n + 1), show (pt (n + 1)).val = n + 1 from Nat.mod_eq_of_lt hn]

/-- One worker's sum: the embeddings of the tokens it counted. -/
theorem worker_sum (txt : S327680.Idx → BitVec 32) (ht : ∀ j, (txt j).toNat < 100000) (X : S32x10x1x10000.Idx → Ideal .f32)
    (Y : S100000x128.Idx → Ideal .f32) (w : Fin 32) (j : Fin 128)
    (hX : ∀ (i : Fin 10) (u : Fin 10000), X (ix4 w i 0 u) = histF (F := Ideal) txt (ix2 w ⟨10000 * i.val + u.val, by omega⟩)) :
    acc (F := Ideal) X Y 9 (ix2 w j) = ∑ k ∈ Finset.range 9728, Y (embIx (tokN txt (16384 + (9728 * w.val + k))) j) := by
  rw [acc_apply X Y w j (occ (fun k => tokN txt (16384 + (9728 * w.val + k))) 9728) (fun i u => (hX i u).trans (histF_apply txt ht _)) 9 (by decide),
    sum_blocks (9 + 1) 10000 fun v => occ (fun k => tokN txt (16384 + (9728 * w.val + k))) 9728 v * Y (embIx v j)]
  exact sum_occ _ (fun v => Y (embIx v j)) (10000 * (9 + 1)) 9728 fun k => ht _

/-- All workers' sums: the embeddings of every token from position 16384 on. -/
theorem all_sums (txt : S327680.Idx → BitVec 32) (ht : ∀ j, (txt j).toNat < 100000) (X : S32x10x1x10000.Idx → Ideal .f32)
    (Y : S100000x128.Idx → Ideal .f32) (j : Fin 128)
    (hX : ∀ (w : Fin 32) (i : Fin 10) (u : Fin 10000), X (ix4 w i 0 u) = histF (F := Ideal) txt (ix2 w ⟨10000 * i.val + u.val, by omega⟩)) :
    (∑ w : Fin 32, acc (F := Ideal) X Y 9 (ix2 w j) : EReal) = ∑ i ∈ Finset.range 311296, Y (embIx (tokN txt (16384 + i)) j) := by
  have h := sum_blocks 32 9728 fun i => Y (embIx (tokN txt (16384 + i)) j)
  rw [show 9728 * 32 = 311296 from by norm_num] at h
  rw [← h, ← Fin.sum_univ_eq_sum_range (fun w => ∑ k ∈ Finset.range 9728, Y (embIx (tokN txt (16384 + (9728 * w + k))) j))]
  exact Finset.sum_congr rfl fun w _ => worker_sum txt ht X Y w j (hX w)

/-- The mean row is the mean of the last bag's embeddings. -/
theorem meanRow_apply (txt : S327680.Idx → BitVec 32) (ht : ∀ j, (txt j).toNat < 100000) (V : Dev nD → Valuation τ sig (Elt Ideal)) (c : Dev nD)
    (hX : ∀ (w : Fin 32) (i : Fin 10) (u : Fin 10000), inH V c (ix4 w i 0 u) = histF (F := Ideal) txt (ix2 w ⟨10000 * i.val + u.val, by omega⟩))
    (j : Fin 128) (hR : inR V c (ix2 0 j) = inE V c (embIx (tokN txt 16383) j)) :
    meanRow V c (ix2 0 j)
      = ((∑ i ∈ Finset.range 311296, inE V c (embIx (tokN txt (16384 + i)) j)) + inE V c (embIx (tokN txt 16383) j)) * ((311297⁻¹ : ℝ) : EReal) := by
  rw [meanRow, rBlk_eq, pay4_apply, hR, all_sums txt ht (inH V c) (inE V c) j hX]

end Cert.Proof.IdealRun

end
-- ==== Proof.Spec.lean ====
/-
One row through the layers, over the extended reals: five products with a bias and a clamp at zero, one more product with a
bias, then the softmax.
-/
module

public import Idealize.ShloMosaic.Lib.Pointwise

@[expose] public section

noncomputable section

namespace Cert.Proof.Spec

open Idealize.ShloMosaic

/-- A row times a matrix's rows, plus a bias. -/
def dense {K N : ℕ} (W : (⟨2, ![N, K]⟩ : Shape).Idx → EReal) (b : (⟨1, ![N]⟩ : Shape).Idx → EReal) (x : Fin K → EReal) : Fin N → EReal :=
  fun n => (∑ k : Fin K, x k * W (ix2 n k)) + b (ix1 n)

/-- The same, with what is negative replaced by zero. -/
def hidden {K N : ℕ} (W : (⟨2, ![N, K]⟩ : Shape).Idx → EReal) (b : (⟨1, ![N]⟩ : Shape).Idx → EReal) (x : Fin K → EReal) : Fin N → EReal :=
  fun n => max (dense W b x n) 0

/-- The greatest entry of a row. -/
def top {N : ℕ} (z : Fin N → EReal) : EReal := Finset.univ.fold max ⊥ z

/-- The softmax of a row. -/
def soft {N : ℕ} (z : Fin N → EReal) : Fin N → EReal :=
  fun n => Ideal.div (Ideal.exp (z n - top z)) (∑ k : Fin N, Ideal.exp (z k - top z))

/-- One row through all layers. -/
def net (W1 : (⟨2, ![32, 128]⟩ : Shape).Idx → EReal) (b1 : (⟨1, ![32]⟩ : Shape).Idx → EReal)
    (W2 : (⟨2, ![16, 32]⟩ : Shape).Idx → EReal) (b2 : (⟨1, ![16]⟩ : Shape).Idx → EReal)
    (W3 : (⟨2, ![128, 16]⟩ : Shape).Idx → EReal) (b3 : (⟨1, ![128]⟩ : Shape).Idx → EReal)
    (W4 : (⟨2, ![64, 128]⟩ : Shape).Idx → EReal) (b4 : (⟨1, ![64]⟩ : Shape).Idx → EReal)
    (W5 : (⟨2, ![32, 64]⟩ : Shape).Idx → EReal) (b5 : (⟨1, ![32]⟩ : Shape).Idx → EReal)
    (W6 : (⟨2, ![100, 32]⟩ : Shape).Idx → EReal) (b6 : (⟨1, ![100]⟩ : Shape).Idx → EReal) (x : Fin 128 → EReal) : Fin 100 → EReal :=
  soft (dense W6 b6 (hidden W5 b5 (hidden W4 b4 (hidden W3 b3 (hidden W2 b2 (hidden W1 b1 x))))))

end Cert.Proof.Spec

end
-- ==== Proof.IdealRun.TowerValue.lean ====
/-
What the layers' body computes for one row of its block.
-/
module

public import proofs.«01_k».proof.Proof.IdealRun.Body2
public import proofs.«01_k».proof.Proof.Spec

@[expose] public section

noncomputable section

namespace Cert.Proof.IdealRun

open Cert.KernelIdeal Cert.KernelIdeal.Gen

open Idealize.ShloMosaic Cert.Proof.Spec

variable (i : grid2.Coords) (x1 : Vec Ideal S1024x128 .f32) (x2 : Vec Ideal S1x128 .f32) (x3 : Vec Ideal S32x128 .f32) (x4 : Vec Ideal S1x32 .f32)
  (x5 : Vec Ideal S16x32 .f32) (x6 : Vec Ideal S1x16 .f32) (x7 : Vec Ideal S128x16 .f32) (x8 : Vec Ideal S1x128 .f32) (x9 : Vec Ideal S64x128 .f32)
  (x10 : Vec Ideal S1x64 .f32) (x11 : Vec Ideal S32x64 .f32) (x12 : Vec Ideal S1x32 .f32) (x13 : Vec Ideal S100x32 .f32) (x14 : Vec Ideal S1x100 .f32)

set_option maxHeartbeats 4000000 in
theorem tower_apply (r : Fin 1024) (n : Fin 100) :
    tower (F := Ideal) i x1 x2 x3 x4 x5 x6 x7 x8 x9 x10 x11 x12 x13 x14 (ix2 r n)
      = net x3 (fun j => x4 (ix2 0 (j 0))) x5 (fun j => x6 (ix2 0 (j 0))) x7 (fun j => x8 (ix2 0 (j 0))) x9 (fun j => x10 (ix2 0 (j 0)))
          x11 (fun j => x12 (ix2 0 (j 0))) x13 (fun j => x14 (ix2 0 (j 0)))
          (fun k => if 1024 * (i 0).val + r.val = 16383 then x2 (ix2 0 k) else x1 (ix2 r k)) n := by
  have hi : (i 0).val < 16 := (i 0).isLt
  have hr := r.isLt
  have hw : IntOp.addi (Scalar.muli (BitVec.ofNat 32 (i 0).val) 1024#32) (BitVec.ofNat 32 r.val) = BitVec.ofNat 32 (1024 * (i 0).val + r.val) := by
    show BitVec.ofNat 32 (i 0).val * BitVec.ofNat 32 1024 + BitVec.ofNat 32 r.val = _
    rw [← BitVec.ofNat_mul, ← BitVec.ofNat_add, Nat.mul_comm]
  have hs : ∀ a b : EReal, Scalar.select (IntOp.cmpi .eq (IntOp.addi (Scalar.muli (BitVec.ofNat 32 (i 0).val) 1024#32) (BitVec.ofNat 32 r.val)) 16383#32) a b
      = if 1024 * (i 0).val + r.val = 16383 then a else b := fun a b => by
    rw [hw]
    by_cases h : 1024 * (i 0).val + r.val = 16383
    · rw [if_pos h, h]; rfl
    · rw [if_neg h]
      have hne : BitVec.ofNat 32 (1024 * (i 0).val + r.val) ≠ 16383#32 := fun q => h (by
        have := congrArg BitVec.toNat q
        rw [BitVec.toNat_ofNat, BitVec.toNat_ofNat] at this
        omega)
      show Scalar.select (BitVec.ofBool (decide _)) a b = b
      rw [decide_eq_false hne]; rfl
  have hb : Ideal.ofBits .f32 4286578688#32 = (⊥ : EReal) := by simp [Ideal.ofBits, Ideal.ieee]
  unfold net soft top dense Spec.hidden dense
  pointwise [tower, k2_pay1, k2_pay2, k2_pay3]
  simp only [hs, hb]

end Cert.Proof.IdealRun

end
-- ==== Proof.IdealRun.Readout.lean ====
/-
What each buffer holds before each pipeline, and the result's entries at the end.
-/
module

public import proofs.«01_k».proof.Proof.IdealRun.Frame
public import proofs.«01_k».proof.Proof.IdealRun.MeanValue
public import proofs.«01_k».proof.Proof.IdealRun.TowerValue

@[expose] public section

noncomputable section

namespace Cert.Proof.IdealRun

open Cert.KernelIdeal Cert.KernelIdeal.Gen

open Idealize.ShloMosaic
open Idealize.ShloMosaic.TcCoe
open Cert.Proof.Spec (net)

variable (m : (ℓ : Loc nD τ sig) → Buf (Elt Ideal) ℓ) (c : Dev nD)

/-- The launch's contents of a buffer. -/
abbrev at₀ (b : Ref sig .tc) : Buf (Elt Ideal) ((SparseCore.T c : Thread nD τ).loc b) := m ((SparseCore.T c : Thread nD τ).loc b)

/-- Column `k` of the embedding of the token at position `n`. -/
abbrev embedded (n : ℕ) (k : Fin 128) : EReal := at₀ m c main_arg2 (embIx (tokN (at₀ m c main_arg0) n) k)

/-! ## Before the first pipeline -/

/-- The counts, by worker, block and position. -/
theorem valB_hist (w : Fin 32) (i : Fin 10) (u : Fin 10000) :
    inH (valB m) c (ix4 w i 0 u) = histF (F := Ideal) (at₀ m c main_arg0) (ix2 w ⟨10000 * i.val + u.val, by omega⟩) := by
  have h : valB m c (Proc.devRef .tc main_v1) = fun x => shapeCast main_v1.ty.shape (fhN m c) shapeCasts_S32x100000_S32x10x1x10000 x := by
    unfold valB opH opR
    rw [StableHlo.unary_result_ne _ _ _ _ _ _ (by decide), StableHlo.reshape_result', valA_hist]
  refine (congrFun h _).trans (shapeCast_apply _ _ _ _ ?_)
  refine (Shape.rowMajor_val_two _).trans (Eq.trans ?_ (Shape.rowMajor_val_four _).symm)
  show w.val * 100000 + (10000 * i.val + u.val) = ((w.val * 10 + i.val) * 1 + 0) * 10000 + u.val
  omega

/-- The table. -/
theorem valB_table : inE (valB m) c = at₀ m c main_arg2 :=
  (valB_keep m c main_arg2 (by decide) (by decide)).trans (valA_other m c _ (by decide) (by decide))

/-- The one gathered row. -/
theorem valB_row (j : Fin 128) : inR (valB m) c (ix2 0 j) = at₀ m c main_arg2 (embIx (tokN (at₀ m c main_arg0) 16383) j) := by
  have h : valB m c (Proc.devRef .tc main_v2) = extractStridedSlice S1x128 ![16383, 0] (fbN m c) slices_S16384x128_S1x128_16383_0 := by
    unfold valB opH opR
    rw [StableHlo.unary_result', StableHlo.reshape_result_ne _ _ _ _ _ _ _ (by decide), valA_base]
  refine (congrFun h _).trans ?_
  unfold extractStridedSlice
  refine congrArg (fbN m c) (?_ : _ = ix2 (⟨16383, by decide⟩ : Fin 16384) j)
  funext a
  apply Fin.ext
  match a with
  | ⟨0, _⟩ => rfl
  | ⟨1, _⟩ => show 0 + j.val = j.val; omega

/-! ## Before the second pipeline -/

/-- The mean row, of the launch's arguments. -/
theorem valC_mean (ht : PreOK m) (j : Fin 128) :
    valC m c (Proc.devRef .tc main_v3) (ix2 0 j)
      = ((∑ i ∈ Finset.range 311296, embedded m c (16384 + i) j)
          + embedded m c 16383 j) * ((311297⁻¹ : ℝ) : EReal) := by
  have h : valC m c (Proc.devRef .tc main_v3) = meanRow (valB m) c := by
    unfold valC after1
    exact (Pipeline.afterRegion_arr (dat1 (valB m) c) (valB m c) launch1.win.arr_inj 3).trans (final1 (valB m) c)
  refine (congrFun h _).trans ((meanRow_apply (at₀ m c main_arg0) (fun j => ht c j) (valB m) c (valB_hist m c) j ?_).trans ?_)
  · rw [valB_table]; exact valB_row m c j
  · rw [valB_table]

/-- An argument is as at the launch. -/
theorem valD_arg (b : Ref sig .tc)
    (hb : b ∉ ([main_v0_0, main_v0_1, main_v1, main_v2, main_v3, main_v4, main_v5, main_v6, main_v7, main_v8, main_v9, main_v10] : List (Ref sig .tc))) :
    valD m c (Proc.devRef .tc b) = at₀ m c b := by
  have hb' := hb
  simp only [List.mem_cons, List.not_mem_nil, or_false, not_or] at hb'
  exact (after2_keep (valD m) c b hb'.2.2.2.2.2.2.2.2.2.2.2).symm.trans (valE_keep m c b hb)

theorem valC_arg (b : Ref sig .tc)
    (hb : b ∉ ([main_v0_0, main_v0_1, main_v1, main_v2, main_v3, main_v4, main_v5, main_v6, main_v7, main_v8, main_v9, main_v10] : List (Ref sig .tc))) :
    valC m c (Proc.devRef .tc b) = at₀ m c b := by
  have hb' := hb
  simp only [List.mem_cons, List.not_mem_nil, or_false, not_or] at hb'
  exact (valD_keep m c b (by simp [hb'])).symm.trans (valD_arg m c b hb)

/-- The mean row is still there, -/
theorem valD_mean : valD m c (Proc.devRef .tc main_v3) = valC m c (Proc.devRef .tc main_v3) := valD_keep m c main_v3 (by decide)

/-- and so are the gathered rows. -/
theorem valD_base : valD m c (Proc.devRef .tc main_v0_0) = fbN m c := by
  rw [valD_keep m c main_v0_0 (by decide)]
  unfold valC
  rw [after1_keep _ _ _ (by decide), valB_keep m c main_v0_0 (by decide) (by decide), valA_base]

/-! The bias rows are the biases. -/

theorem bias0 : (fun j : S32.Idx => valD m c (Proc.devRef .tc main_v4) (ix2 (0 : Fin 1) (j 0))) = at₀ m c main_arg4 := by
  have h : valD m c (Proc.devRef .tc main_v4) = fun x => shapeCast main_v4.ty.shape (at₀ m c main_arg4) shapeCasts_S32_S1x32 x := by
    unfold valD opB0 opB1 opB2 opB3 opB4 opB5
    rw [StableHlo.reshape_result_ne _ _ _ _ _ _ _ (by decide), StableHlo.reshape_result_ne _ _ _ _ _ _ _ (by decide), StableHlo.reshape_result_ne _ _ _ _ _ _ _ (by decide), StableHlo.reshape_result_ne _ _ _ _ _ _ _ (by decide), StableHlo.reshape_result_ne _ _ _ _ _ _ _ (by decide), StableHlo.reshape_result', valC_arg m c main_arg4 (by decide)]
  funext j
  refine (congrFun h _).trans (shapeCast_apply _ _ _ _ ?_)
  refine (Shape.rowMajor_val_one _).trans (Eq.trans ?_ (Shape.rowMajor_val_two _).symm)
  show (j 0).val = 0 * 32 + (j 0).val
  omega
theorem bias1 : (fun j : S16.Idx => valD m c (Proc.devRef .tc main_v5) (ix2 (0 : Fin 1) (j 0))) = at₀ m c main_arg6 := by
  have h : valD m c (Proc.devRef .tc main_v5) = fun x => shapeCast main_v5.ty.shape (at₀ m c main_arg6) shapeCasts_S16_S1x16 x := by
    unfold valD opB0 opB1 opB2 opB3 opB4 opB5
    rw [StableHlo.reshape_result_ne _ _ _ _ _ _ _ (by decide), StableHlo.reshape_result_ne _ _ _ _ _ _ _ (by decide), StableHlo.reshape_result_ne _ _ _ _ _ _ _ (by decide), StableHlo.reshape_result_ne _ _ _ _ _ _ _ (by decide), StableHlo.reshape_result', StableHlo.reshape_result_ne _ _ _ _ _ _ _ (by decide), valC_arg m c main_arg6 (by decide)]
  funext j
  refine (congrFun h _).trans (shapeCast_apply _ _ _ _ ?_)
  refine (Shape.rowMajor_val_one _).trans (Eq.trans ?_ (Shape.rowMajor_val_two _).symm)
  show (j 0).val = 0 * 16 + (j 0).val
  omega
theorem bias2 : (fun j : S128.Idx => valD m c (Proc.devRef .tc main_v6) (ix2 (0 : Fin 1) (j 0))) = at₀ m c main_arg8 := by
  have h : valD m c (Proc.devRef .tc main_v6) = fun x => shapeCast main_v6.ty.shape (at₀ m c main_arg8) shapeCasts_S128_S1x128 x := by
    unfold valD opB0 opB1 opB2 opB3 opB4 opB5
    rw [StableHlo.reshape_result_ne _ _ _ _ _ _ _ (by decide), StableHlo.reshape_result_ne _ _ _ _ _ _ _ (by decide), StableHlo.reshape_result_ne _ _ _ _ _ _ _ (by decide), StableHlo.reshape_result', StableHlo.reshape_result_ne _ _ _ _ _ _ _ (by decide), StableHlo.reshape_result_ne _ _ _ _ _ _ _ (by decide), valC_arg m c main_arg8 (by decide)]
  funext j
  refine (congrFun h _).trans (shapeCast_apply _ _ _ _ ?_)
  refine (Shape.rowMajor_val_one _).trans (Eq.trans ?_ (Shape.rowMajor_val_two _).symm)
  show (j 0).val = 0 * 128 + (j 0).val
  omega
theorem bias3 : (fun j : S64.Idx => valD m c (Proc.devRef .tc main_v7) (ix2 (0 : Fin 1) (j 0))) = at₀ m c main_arg10 := by
  have h : valD m c (Proc.devRef .tc main_v7) = fun x => shapeCast main_v7.ty.shape (at₀ m c main_arg10) shapeCasts_S64_S1x64 x := by
    unfold valD opB0 opB1 opB2 opB3 opB4 opB5
    rw [StableHlo.reshape_result_ne _ _ _ _ _ _ _ (by decide), StableHlo.reshape_result_ne _ _ _ _ _ _ _ (by decide), StableHlo.reshape_result', StableHlo.reshape_result_ne _ _ _ _ _ _ _ (by decide), StableHlo.reshape_result_ne _ _ _ _ _ _ _ (by decide), StableHlo.reshape_result_ne _ _ _ _ _ _ _ (by decide), valC_arg m c main_arg10 (by decide)]
  funext j
  refine (congrFun h _).trans (shapeCast_apply _ _ _ _ ?_)
  refine (Shape.rowMajor_val_one _).trans (Eq.trans ?_ (Shape.rowMajor_val_two _).symm)
  show (j 0).val = 0 * 64 + (j 0).val
  omega
theorem bias4 : (fun j : S32.Idx => valD m c (Proc.devRef .tc main_v8) (ix2 (0 : Fin 1) (j 0))) = at₀ m c main_arg12 := by
  have h : valD m c (Proc.devRef .tc main_v8) = fun x => shapeCast main_v8.ty.shape (at₀ m c main_arg12) shapeCasts_S32_S1x32 x := by
    unfold valD opB0 opB1 opB2 opB3 opB4 opB5
    rw [StableHlo.reshape_result_ne _ _ _ _ _ _ _ (by decide), StableHlo.reshape_result', StableHlo.reshape_result_ne _ _ _ _ _ _ _ (by decide), StableHlo.reshape_result_ne _ _ _ _ _ _ _ (by decide), StableHlo.reshape_result_ne _ _ _ _ _ _ _ (by decide), StableHlo.reshape_result_ne _ _ _ _ _ _ _ (by decide), valC_arg m c main_arg12 (by decide)]
  funext j
  refine (congrFun h _).trans (shapeCast_apply _ _ _ _ ?_)
  refine (Shape.rowMajor_val_one _).trans (Eq.trans ?_ (Shape.rowMajor_val_two _).symm)
  show (j 0).val = 0 * 32 + (j 0).val
  omega
theorem bias5 : (fun j : S100.Idx => valD m c (Proc.devRef .tc main_v9) (ix2 (0 : Fin 1) (j 0))) = at₀ m c main_arg14 := by
  have h : valD m c (Proc.devRef .tc main_v9) = fun x => shapeCast main_v9.ty.shape (at₀ m c main_arg14) shapeCasts_S100_S1x100 x := by
    unfold valD opB0 opB1 opB2 opB3 opB4 opB5
    rw [StableHlo.reshape_result', StableHlo.reshape_result_ne _ _ _ _ _ _ _ (by decide), StableHlo.reshape_result_ne _ _ _ _ _ _ _ (by decide), StableHlo.reshape_result_ne _ _ _ _ _ _ _ (by decide), StableHlo.reshape_result_ne _ _ _ _ _ _ _ (by decide), StableHlo.reshape_result_ne _ _ _ _ _ _ _ (by decide), valC_arg m c main_arg14 (by decide)]
  funext j
  refine (congrFun h _).trans (shapeCast_apply _ _ _ _ ?_)
  refine (Shape.rowMajor_val_one _).trans (Eq.trans ?_ (Shape.rowMajor_val_two _).symm)
  show (j 0).val = 0 * 100 + (j 0).val
  omega

/-! ## The result -/

theorem valE_result : valE m c (Proc.devRef .tc main_v10) = outF (valD m) c := by
  unfold valE after2
  exact (Pipeline.afterRegion_arr (dat2 (valD m) c) (valD m c) launch2.win.arr_inj 14).trans (final2 (valD m) c)

/-- The row the network's first layer multiplies. -/
def bagRow (b : Fin 16384) (k : Fin 128) : EReal :=
  if b.val = 16383 then
    ((∑ i ∈ Finset.range 311296, embedded m c (16384 + i) k)
          + embedded m c 16383 k) * ((311297⁻¹ : ℝ) : EReal)
  else embedded m c b.val k

/-- The result is the network of the bag's mean embedding. -/
theorem result_apply (ht : PreOK m) (b : Fin 16384) (n : Fin 100) :
    valE m c (Proc.devRef .tc main_v10) (ix2 b n)
      = net (at₀ m c main_arg3) (at₀ m c main_arg4) (at₀ m c main_arg5) (at₀ m c main_arg6) (at₀ m c main_arg7) (at₀ m c main_arg8)
          (at₀ m c main_arg9) (at₀ m c main_arg10) (at₀ m c main_arg11) (at₀ m c main_arg12) (at₀ m c main_arg13) (at₀ m c main_arg14)
          (bagRow m c b) n := by
  have hb := b.isLt
  have hq : b.val / 1024 < cfg2.N := by rw [show cfg2.N = 16 from N_2]; omega
  have hr : b.val % 1024 < 1024 := Nat.mod_lt _ (by decide)
  have hbr : b.val = 1024 * (b.val / 1024) + b.val % 1024 := (Nat.div_add_mod _ _).symm
  have hc : ((grid2.coords ⟨b.val / 1024, hq⟩) 0).val = b.val / 1024 := coord2 ⟨b.val / 1024, hq⟩
  refine (congrFun (valE_result m c) _).trans ((outF_at (valD m) c ⟨b.val / 1024, hq⟩ (ix2 b n) (ix2 ⟨b.val % 1024, hr⟩ n) hbr rfl).trans ?_)
  unfold out14
  refine (tower_apply _ _ _ _ _ _ _ _ _ _ _ _ _ _ _ _ _).trans ?_
  rw [in2_eq, in3_eq, in4_eq, in5_eq, in6_eq, in7_eq, in8_eq, in9_eq, in10_eq, in11_eq, in12_eq, in13_eq, bias0, bias1, bias2, bias3, bias4, bias5,
    valD_arg m c main_arg3 (by decide), valD_arg m c main_arg5 (by decide), valD_arg m c main_arg7 (by decide), valD_arg m c main_arg9 (by decide),
    valD_arg m c main_arg11 (by decide), valD_arg m c main_arg13 (by decide)]
  refine congrArg (fun row => net (at₀ m c main_arg3) (at₀ m c main_arg4) (at₀ m c main_arg5) (at₀ m c main_arg6) (at₀ m c main_arg7) (at₀ m c main_arg8)
          (at₀ m c main_arg9) (at₀ m c main_arg10) (at₀ m c main_arg11) (at₀ m c main_arg12) (at₀ m c main_arg13) (at₀ m c main_arg14) row n) ?_
  funext k
  unfold bagRow
  rw [hc, ← hbr]
  by_cases h : b.val = 16383
  · rw [if_pos h, if_pos h, in1_eq, valD_mean]
    exact valC_mean m c ht k
  · rw [if_neg h, if_neg h]
    refine (in0_apply (valD m) c ⟨b.val / 1024, hq⟩ ⟨b.val % 1024, hr⟩ k b hbr).trans ?_
    rw [valD_base]
    rfl

end Cert.Proof.IdealRun

end
-- ==== Proof.Ref.Seg.lean ====
/-
The reference's segment ids: with `offsets` counting up from zero, token `t` belongs to bag `min t 16383`.
-/
module

public import proofs.«01_k».proof.Proof.Gen.ReferenceIdeal
public import Idealize.ShloMosaic.Lib.Routing.Ops
public import Idealize.ShloMosaic.Lib.Routing.OpsPair

@[expose] public section

noncomputable section

namespace Cert.Proof.Ref

open Cert.ReferenceIdeal Cert.ReferenceIdeal.Gen Idealize.ShloMosaic Idealize.ShloMosaic.ValueIdx Idealize.ShloMosaic.Routing

/-- The offsets with jnp's wrap of negative ones, as a column. -/
def offCol (o : IVec S16384 32) : IVec S16384x1 32 :=
  broadcastInDim S16384x1 ![0] bcast_S16384_S16384x1_0
    (select (cmpi .slt o (broadcastInDim S16384 ![] bcast_S_S16384 (constantI S_ 32 0#32)))
      (addi o (broadcastInDim S16384 ![] bcast_S_S16384 (constantI S_ 32 327680#32))) o)

/-- A one at every offset. -/
def marks (o : IVec S16384 32) : IVec S327680 32 :=
  Host.scatter scatter_S327680_S16384x1_S16384_n_0_0_1 IntOp.addi (broadcastInDim S327680 ![] bcast_S_S327680 (constantI S_ 32 0#32))
    (offCol o) (broadcastInDim S16384 ![] bcast_S_S16384 (constantI S_ 32 1#32))

/-- The segment ids: the running sum of the marks, less one. -/
def seg (o : IVec S16384 32) : IVec S327680 32 :=
  subi (Host.reduceWindow IntOp.addi ![327680] ![1] ![327679] ![0] (marks o) (broadcastInDim S_ ![] bcast_S_S_ (constantI S_ 32 0#32))
      reduceWindows_S327680_S327680_w327680s1p327679_0 h_S_)
    (broadcastInDim S327680 ![] bcast_S_S327680 (constantI S_ 32 1#32))

/-- An offset that counts up from zero is not wrapped. -/
theorem offCol_apply (o : IVec S16384 32) (ho : ∀ j, o j = BitVec.ofNat 32 (j 0).val) (n : Fin 16384) :
    offCol o (ix2 n (0 : Fin 1)) = BitVec.ofNat 32 n.val := by
  have hn := n.isLt
  refine (bcCol bcast_S16384_S16384x1_0 _ n).trans ?_
  have e : o (ix1 n) = BitVec.ofNat 32 n.val := ho _
  refine (wrap_of_lt (o (ix1 n)) _ ?_).trans e
  rw [e, BitVec.toNat_ofNat]
  omega

/-- The start of update `n`'s window is offset `n`. -/
theorem mark_lands (idx : IVec S16384x1 32) (n : Fin 16384) (x : Fin 327680) :
    scatter_S327680_S16384x1_S16384_n_0_0_1.resultIdx? (ix1 n) idx = some (ix1 x) ↔ (idx (ix2 n (0 : Fin 1))).toInt = (x.val : Int) := by
  refine (resultIdx?_ix1 scatter_S327680_S16384x1_S16384_n_0_0_1 (ix1 n) idx x).trans ?_
  have hw : scatter_S327680_S16384x1_S16384_n_0_0_1.window (ix1 n) 0 = 0 := by
    unfold ScatterDims.window
    rw [dif_neg (by decide)]
  have hs : scatter_S327680_S16384x1_S16384_n_0_0_1.start (ix1 n) idx 0 = (idx (ix2 n (0 : Fin 1))).toInt := by
    unfold ScatterDims.start
    rw [dif_pos (by decide)]
    refine congrArg (fun q => (idx q).toInt) (funext fun b => Fin.ext ?_)
    match b with
    | ⟨0, _⟩ => rfl
    | ⟨1, _⟩ => rfl
  rw [hw, hs]
  omega

/-- Folding "add one if `p`" counts. -/
theorem foldl_ones {α : Type} (p : α → Prop) [DecidablePred p] (l : List α) (c : ℕ) :
    l.foldl (fun (a : BitVec 32) n => if p n then IntOp.addi a 1#32 else a) (BitVec.ofNat 32 c)
      = BitVec.ofNat 32 (c + l.countP (fun n => decide (p n))) := by
  induction l generalizing c with
  | nil => simp
  | cons a l ih =>
    rw [List.foldl_cons, List.countP_cons]
    by_cases h : p a
    · rw [if_pos h, show IntOp.addi (BitVec.ofNat 32 c) 1#32 = BitVec.ofNat 32 (c + 1) from (BitVec.ofNat_add c 1).symm, ih]
      simp only [h, decide_true, if_true]
      congr 1; omega
    · rw [if_neg h, ih]
      simp [h]

/-- There is one mark at each of the first 16384 positions, none after. -/
theorem marks_apply (o : IVec S16384 32) (ho : ∀ j, o j = BitVec.ofNat 32 (j 0).val) (x : Fin 327680) :
    marks o (ix1 x) = BitVec.ofNat 32 (if x.val < 16384 then 1 else 0) := by
  have hp : ∀ n : Fin (shape1 16384).numel, scatter_S327680_S16384x1_S16384_n_0_0_1.resultIdx? (S16384.rowMajor.symm n) (offCol o) = some (ix1 x)
      ↔ n.val = x.val := fun n => by
    have h1 := mark_lands (offCol o) (n.cast (numel1 16384)) x
    rw [offCol_apply o ho, StableHlo.Predicate.toInt_ofNat_small _ (by have := (n.cast (numel1 16384)).isLt; omega)] at h1
    rw [show S16384.rowMajor.symm n = ix1 (n.cast (numel1 16384)) from symm1 n]
    refine h1.trans ?_
    show ((n.val : ℕ) : Int) = _ ↔ _
    omega
  unfold marks
  refine (scatter_at _ _ _ _ _ (ix1 x)).trans ?_
  have e0 : (broadcastInDim S327680 ![] bcast_S_S327680 (constantI S_ 32 0#32)) (ix1 x) = BitVec.ofNat 32 0 := rfl
  refine Eq.trans ?_ ((foldl_ones (fun n : Fin (shape1 16384).numel => n.val = x.val) (List.finRange _) 0).trans ?_)
  · rw [e0]
    congr 1
    funext a n
    by_cases h : n.val = x.val
    · rw [if_pos ((hp n).2 h), if_pos h]; rfl
    · rw [if_neg fun q => h ((hp n).1 q), if_neg h]
  · rw [countP_finRange _ (fun i => i = x.val), numel1, Nat.zero_add, Nat.count_eq_card_filter_range, Finset.filter_eq']
    simp only [Finset.mem_range]
    split <;> simp

/-- Counting the first 16384 among the first `n`. -/
theorem sum_marks (n : ℕ) : ((List.range n).map fun i => if i < 16384 then 1 else 0).sum = min n 16384 := by
  induction n with
  | zero => rfl
  | succ n ih =>
    rw [List.range_succ, List.map_append, List.sum_append, ih]
    simp only [List.map_cons, List.map_nil, List.sum_cons, List.sum_nil]
    split <;> omega

/-- Token `t` belongs to bag `min t 16383`. -/
theorem seg_apply (o : IVec S16384 32) (ho : ∀ j, o j = BitVec.ofNat 32 (j 0).val) (t : Fin 327680) :
    seg o (ix1 t) = BitVec.ofNat 32 (min t.val 16383) := by
  have h := cumsum1 (N := 327680) (Nm1 := 327679) rfl (marks o) (fun i => if i < 16384 then 1 else 0) (marks_apply o ho)
    (broadcastInDim S_ ![] bcast_S_S_ (constantI S_ 32 0#32)) rfl reduceWindows_S327680_S327680_w327680s1p327679_0 h_S_ t
  rw [sum_marks] at h
  show IntOp.subi (Host.reduceWindow IntOp.addi ![327680] ![1] ![327679] ![0] (marks o) _ _ _ (ix1 t)) 1#32 = _
  refine (congrArg (fun a => IntOp.subi a 1#32) h).trans ?_
  show BitVec.ofNat 32 (min (t.val + 1) 16384) - 1#32 = _
  rw [show min (t.val + 1) 16384 = min t.val 16383 + 1 by omega, BitVec.ofNat_add]
  exact BitVec.add_sub_cancel _ _

end Cert.Proof.Ref

end
-- ==== Proof.Ref.Take.lean ====
/-
The reference's look-up: with every token id below 100000, row `t` of the gathered array is the table's row at token `t`.
-/
module

public import proofs.«01_k».proof.Proof.Gen.ReferenceIdeal
public import Idealize.ShloMosaic.Lib.Routing.Ops
public import Idealize.ShloMosaic.Lib.Routing.OpsPair
public import Idealize.ShloMosaic.Lib.ReduceAll
public import Idealize.ShloMosaic.Lib.WordCmp
public import Idealize.ShloMosaic.PureOps.Ideal

@[expose] public section

noncomputable section

namespace Cert.Proof.Ref

open Cert.ReferenceIdeal Cert.ReferenceIdeal.Gen Idealize.ShloMosaic Idealize.ShloMosaic.ValueIdx Idealize.ShloMosaic.Routing

/-- The token ids with jnp's wrap of negative ones, as a column. -/
def tokCol (x : IVec S327680 32) : IVec S327680x1 32 :=
  broadcastInDim S327680x1 ![0] bcast_S327680_S327680x1_0
    (select (cmpi .slt x (broadcastInDim S327680 ![] bcast_S_S327680 (constantI S_ 32 0#32)))
      (addi x (broadcastInDim S327680 ![] bcast_S_S327680 (constantI S_ 32 100000#32))) x)

/-- One where every token id of the row is a row number of the table. -/
def inTable (x : IVec S327680 32) : IVec S327680 1 :=
  Host.reduce IntOp.andi
    (andi (cmpi .sge (tokCol x) (broadcastInDim S327680x1 ![] bcast_S_S327680x1 (constantI S_ 32 0#32)))
      (cmpi .sle (tokCol x) (broadcastInDim S327680x1 ![0, 1] bcast_S1x1_S327680x1_0_1 (broadcastInDim S1x1 ![1] bcast_S1_S1x1_1 (constantI S1 32 99999#32)))))
    (constantI S_ 1 1#1) reducesTo_S327680x1_S327680_d1 h_S_

/-- The gathered rows. -/
def take (x : IVec S327680 32) (e : Vec Ideal S100000x128 .f32) : Vec Ideal S327680x128 .f32 :=
  select (broadcastInDim S327680x128 ![0] bcast_S327680_S327680x128_0 (inTable x))
    (Host.gather gather_S100000x128_S327680x1_S327680x128_1_0_n_n_0_1_1128 e (tokCol x))
    (broadcastInDim S327680x128 ![] bcast_S_S327680x128 (constant (F := Ideal) S_ .f32 0x7FC00000#32))

/-- A token id below 100000 is not wrapped. -/
theorem tokCol_apply (x : IVec S327680 32) (hx : ∀ j, (x j).toNat < 100000) (t : Fin 327680) : tokCol x (ix2 t (0 : Fin 1)) = x (ix1 t) := by
  refine (bcCol bcast_S327680_S327680x1_0 _ t).trans ?_
  refine wrap_of_lt (x (ix1 t)) _ ?_
  have := hx (ix1 t)
  omega

/-- Every token id is a row number of the table. -/
theorem inTable_apply (x : IVec S327680 32) (hx : ∀ j, (x j).toNat < 100000) (j) : inTable x j = 1#1 := by
  refine Host.reduce_andi_one _ _ _ _ j rfl fun i => ?_
  obtain ⟨t, z, rfl⟩ : ∃ (t : Fin 327680) (z : Fin 1), i = ix2 t z := ⟨i 0, i 1, eq_ix2 i⟩
  obtain rfl : z = 0 := Subsingleton.elim _ _
  have h := hx (ix1 t)
  show IntOp.andi (IntOp.cmpi .sge (tokCol x (ix2 t (0 : Fin 1))) 0#32) (IntOp.cmpi .sle (tokCol x (ix2 t (0 : Fin 1))) 99999#32) = 1#1
  rw [tokCol_apply x hx]
  have hi : (x (ix1 t)).toInt = ((x (ix1 t)).toNat : Int) := BitVec.toInt_eq_toNat_of_lt (by omega)
  refine IntOp.andi_eq_one.2 ⟨?_, ?_⟩
  · rw [WordCmp.cmpi_sge_eq, hi, decide_eq_true (by simp)]; rfl
  · rw [WordCmp.cmpi_sle_eq, hi, decide_eq_true (by simp; omega)]; rfl

/-- Row `t` is the table's row at token `t`. -/
theorem take_apply (x : IVec S327680 32) (hx : ∀ j, (x j).toNat < 100000) (e : Vec Ideal S100000x128 .f32) (t : Fin 327680) (c : Fin 128) :
    take x e (ix2 t c) = e (ix2 ⟨(x (ix1 t)).toNat, hx _⟩ c) := by
  have hc : broadcastInDim S327680x128 ![0] bcast_S327680_S327680x128_0 (inTable x) (ix2 t c) = 1 := inTable_apply x hx _
  unfold take select Scalar.select
  rw [if_pos hc]
  refine gather_row (nb := 100000) (B := 128) (n := 327680) gather_S100000x128_S327680x1_S327680x128_1_0_n_n_0_1_1128 rfl rfl rfl rfl rfl e (tokCol x) t c ⟨(x (ix1 t)).toNat, hx _⟩ ?_ (show 100000 < 2 ^ 31 by norm_num)
  rw [tokCol_apply x hx]
  exact (BitVec.eq_of_toNat_eq (by rw [BitVec.toNat_ofNat]; exact (Nat.mod_eq_of_lt (x (ix1 t)).isLt).symm))

end Cert.Proof.Ref

end
-- ==== Proof.Ref.Sums.lean ====
/-
Sums over groups, at any sizes: a scatter that adds, read as a sum over the updates of one group; the groups of which all but the last have one
member.
-/
module

public import Idealize.ShloMosaic.Lib.IdealHost
public import Idealize.ShloMosaic.PureOps.Ideal.Laws
public import Idealize.ShloMosaic.Lib.Routing.Shapes

@[expose] public section

noncomputable section

namespace Cert.Proof.Ref

open Idealize.ShloMosaic Idealize.ShloMosaic.ValueIdx Idealize.ShloMosaic.Routing

/-- A quotient of arrays is the quotient of their entries. -/
theorem divf_at {s : Shape} (a b : FVec Ideal s .f32) (i : s.Idx) : Host.divf a b i = Ideal.div (a i) (b i) := rfl

/-- A maximum of arrays is the maximum of their entries. -/
theorem maximumf_at {s : Shape} (a b : FVec Ideal s .f32) (i : s.Idx) : maximumf a b i = max (a i) (b i) := rfl

/-- A sum over a vector's indices is a sum over its positions. -/
theorem sum_idx1 {M : Type*} [AddCommMonoid M] {n : Nat} (f : (⟨1, ![n]⟩ : Shape).Idx → M) : ∑ i, f i = ∑ a : Fin n, f (ix1 a) :=
  (Equiv.sum_comp (⟨fun a => ix1 a, fun i => i 0, fun _ => rfl, fun i => (eq_ix1 i).symm⟩ : Fin n ≃ (⟨1, ![n]⟩ : Shape).Idx) f).symm

/-- A scatter that adds, read at one entry: what was there plus every update that lands there. -/
theorem scatterAdd_at {s si u : Shape} {w : ℕ} (d : ScatterDims s si u) (x : FVec Ideal s .f32) (idx : IVec si w) (upd : FVec Ideal u .f32) (i : s.Idx) :
    Host.scatterAdd d x idx upd i = x i + ∑ j, if d.resultIdx? j idx = some i then upd j else 0 := by
  show Ideal.hostScatterAdd d x idx upd i = _
  unfold Ideal.hostScatterAdd
  rw [Finset.sum_filter]

/-- A scatter that adds row `t` of its updates to row `g t` of zeros, read at `(b, j)`: the sum of the rows with `g t = b`. -/
theorem scatter_rows {B T C w : ℕ} (d : ScatterDims (shape2 B C) (shape2 T 1) (shape2 T C)) (x : FVec Ideal (shape2 B C) .f32)
    (idx : IVec (shape2 T 1) w) (upd : FVec Ideal (shape2 T C) .f32) (g : ℕ → ℕ)
    (hl : ∀ (t : Fin T) (c : Fin C) (b : Fin B) (j : Fin C), d.resultIdx? (ix2 t c) idx = some (ix2 b j) ↔ g t.val = b.val ∧ c = j)
    (b : Fin B) (j : Fin C) (hx : x (ix2 b j) = 0) :
    Host.scatterAdd d x idx upd (ix2 b j) = ∑ t : Fin T, if g t.val = b.val then upd (ix2 t j) else 0 := by
  rw [scatterAdd_at, hx, zero_add, sum_idx2]
  refine Finset.sum_congr rfl fun t _ => ?_
  have hc : ∀ c : Fin C, (if d.resultIdx? (ix2 t c) idx = some (ix2 b j) then upd (ix2 t c) else 0)
      = if c = j then (if g t.val = b.val then upd (ix2 t j) else 0) else 0 := fun c => by
    have h := hl t c b j
    by_cases h1 : g t.val = b.val <;> by_cases h2 : c = j
    · rw [if_pos (h.2 ⟨h1, h2⟩), if_pos h2, if_pos h1, h2]
    · rw [if_neg fun q => h2 (h.1 q).2, if_neg h2]
    · rw [if_neg fun q => h1 (h.1 q).1, if_pos h2, if_neg h1]
    · rw [if_neg fun q => h2 (h.1 q).2, if_neg h2]
  rw [Finset.sum_congr rfl fun c _ => hc c, Finset.sum_ite_eq' Finset.univ j, if_pos (Finset.mem_univ _)]

/-- A scatter that adds update `t` to entry `g t` of zeros, read at `b`: the sum of the updates with `g t = b`. -/
theorem scatter_entries {B T w : ℕ} (d : ScatterDims (shape1 B) (shape2 T 1) (shape1 T)) (x : FVec Ideal (shape1 B) .f32)
    (idx : IVec (shape2 T 1) w) (upd : FVec Ideal (shape1 T) .f32) (g : ℕ → ℕ)
    (hl : ∀ (t : Fin T) (b : Fin B), d.resultIdx? (ix1 t) idx = some (ix1 b) ↔ g t.val = b.val) (b : Fin B) (hx : x (ix1 b) = 0) :
    Host.scatterAdd d x idx upd (ix1 b) = ∑ t : Fin T, if g t.val = b.val then upd (ix1 t) else 0 := by
  rw [scatterAdd_at, hx, zero_add, sum_idx1]
  refine Finset.sum_congr rfl fun t _ => ?_
  by_cases h1 : g t.val = b.val
  · rw [if_pos ((hl t b).2 h1), if_pos h1]
  · rw [if_neg fun q => h1 ((hl t b).1 q), if_neg h1]

/-- A sum over the members of group `b`, where member `t` is in group `min t n` and there are `m` members after `n`. -/
theorem sum_group (n m N : ℕ) (hN : N = n + (1 + m)) (f : ℕ → EReal) (b : ℕ) (hb : b < n + 1) :
    (∑ t : Fin N, if min t.val n = b then f t.val else 0)
      = if b = n then f n + ∑ i ∈ Finset.range m, f (n + 1 + i) else f b := by
  subst hN
  rw [Fin.sum_univ_eq_sum_range (fun t => if min t n = b then f t else 0) (n + (1 + m)), Finset.sum_range_add, Finset.sum_range_add]
  simp only [Finset.sum_range_one, Nat.add_zero]
  have hl : ∀ i, min (n + (1 + i)) n = n := fun i => by omega
  simp only [hl, min_self]
  by_cases h : b = n
  · rw [if_pos h, if_pos h.symm, Finset.sum_eq_zero (fun t ht => ?_), zero_add]
    · congr 1
      refine Finset.sum_congr rfl fun i _ => ?_
      rw [if_pos h.symm, Nat.add_assoc]
    · rw [Finset.mem_range] at ht
      rw [if_neg (by omega)]
  · rw [if_neg h, if_neg (fun q => h q.symm), Finset.sum_eq_zero (s := Finset.range m) (fun t _ => if_neg fun q => h q.symm), add_zero, add_zero,
      Finset.sum_eq_single b (fun t ht hne => ?_) (fun hn => ?_)]
    · rw [if_pos (by omega)]
    · rw [Finset.mem_range] at ht
      rw [if_neg (by omega)]
    · rw [Finset.mem_range] at hn
      omega

/-- One plus `m` ones. -/
theorem one_add_ones (m : ℕ) : (1 : EReal) + ∑ _i ∈ Finset.range m, (1 : EReal) = (((m : ℝ) + 1 : ℝ) : EReal) := by
  rw [Finset.sum_const, Finset.card_range, nsmul_one, add_comm, EReal.coe_add, EReal.coe_one]
  rfl

end Cert.Proof.Ref

end
-- ==== Proof.Ref.Bags.lean ====
/-
The reference's bags: the mean of each bag's rows. A bag before the last holds one row; the last holds every remaining row.
-/
module

public import proofs.«01_k».proof.Proof.Ref.Seg
public import proofs.«01_k».proof.Proof.Ref.Take
public import proofs.«01_k».proof.Proof.Ref.Sums

@[expose] public section

noncomputable section

namespace Cert.Proof.Ref

open Cert.ReferenceIdeal Cert.ReferenceIdeal.Gen Idealize.ShloMosaic Idealize.ShloMosaic.ValueIdx Idealize.ShloMosaic.Routing

/-- The segment ids as a column. -/
def segCol (o : IVec S16384 32) : IVec S327680x1 32 := broadcastInDim S327680x1 ![0] bcast_S327680_S327680x1_0 (seg o)

/-- The sum of each bag's rows. -/
def sums (x : IVec S327680 32) (o : IVec S16384 32) (e : Vec Ideal S100000x128 .f32) : Vec Ideal S16384x128 .f32 :=
  Host.scatterAdd scatter_S16384x128_S327680x1_S327680x128_1_0_0_1
    (broadcastInDim S16384x128 ![] bcast_S_S16384x128 (constant (F := Ideal) S_ .f32 0x00000000#32)) (segCol o) (take x e)

/-- How many rows each bag holds. -/
def counts (o : IVec S16384 32) : Vec Ideal S16384 .f32 :=
  Host.scatterAdd scatter_S16384_S327680x1_S327680_n_0_0_1
    (broadcastInDim S16384 ![] bcast_S_S16384 (constant (F := Ideal) S_ .f32 0x00000000#32)) (segCol o)
    (broadcastInDim S327680 ![] bcast_S_S327680 (constant (F := Ideal) S_ .f32 0x3F800000#32))

/-- The mean of each bag's rows. -/
def means (x : IVec S327680 32) (o : IVec S16384 32) (e : Vec Ideal S100000x128 .f32) : Vec Ideal S16384x128 .f32 :=
  Host.divf (sums x o e) (broadcastInDim S16384x128 ![0, 1] bcast_S16384x1_S16384x128_0_1 (broadcastInDim S16384x1 ![0] bcast_S16384_S16384x1_0
    (maximumf (counts o) (broadcastInDim S16384 ![] bcast_S_S16384 (constant (F := Ideal) S_ .f32 0x3F800000#32)))))

theorem segCol_toInt (o : IVec S16384 32) (ho : ∀ j, o j = BitVec.ofNat 32 (j 0).val) (t : Fin 327680) :
    (segCol o (ix2 t (0 : Fin 1))).toInt = ((min t.val 16383 : ℕ) : Int) := by
  rw [show segCol o (ix2 t (0 : Fin 1)) = seg o (ix1 t) from bcCol bcast_S327680_S327680x1_0 _ t, seg_apply o ho]
  exact StableHlo.Predicate.toInt_ofNat_small _ (by omega)

/-- Entry `(t, c)` is added to entry `(b, j)` exactly when row `t` is in bag `b` and `c = j`. -/
theorem row_lands (idx : IVec S327680x1 32) (t : Fin 327680) (c : Fin 128) (b : Fin 16384) (j : Fin 128) :
    scatter_S16384x128_S327680x1_S327680x128_1_0_0_1.resultIdx? (ix2 t c) idx = some (ix2 b j)
      ↔ (idx (ix2 t (0 : Fin 1))).toInt = (b.val : Int) ∧ c = j := by
  refine (resultIdx?_ix2 scatter_S16384x128_S327680x1_S327680x128_1_0_0_1 (ix2 t c) idx b j).trans ?_
  have hw0 : scatter_S16384x128_S327680x1_S327680x128_1_0_0_1.window (ix2 t c) 0 = 0 := by
    unfold ScatterDims.window
    rw [dif_neg (by decide)]
  have hw1 : scatter_S16384x128_S327680x1_S327680x128_1_0_0_1.window (ix2 t c) 1 = c.val := by
    unfold ScatterDims.window
    rw [dif_pos (by decide)]
    rfl
  have hs0 : scatter_S16384x128_S327680x1_S327680x128_1_0_0_1.start (ix2 t c) idx 0 = (idx (ix2 t (0 : Fin 1))).toInt := by
    unfold ScatterDims.start
    rw [dif_pos (by decide)]
    refine congrArg (fun q => (idx q).toInt) (funext fun b => Fin.ext ?_)
    match b with
    | ⟨0, _⟩ => rfl
    | ⟨1, _⟩ => rfl
  have hs1 : scatter_S16384x128_S327680x1_S327680x128_1_0_0_1.start (ix2 t c) idx 1 = 0 := by
    unfold ScatterDims.start
    rw [dif_neg (by decide)]
  rw [hw0, hw1, hs0, hs1, Fin.ext_iff]
  omega

/-- Update `t` is added to entry `b` exactly when row `t` is in bag `b`. -/
theorem one_lands (idx : IVec S327680x1 32) (t : Fin 327680) (b : Fin 16384) :
    scatter_S16384_S327680x1_S327680_n_0_0_1.resultIdx? (ix1 t) idx = some (ix1 b) ↔ (idx (ix2 t (0 : Fin 1))).toInt = (b.val : Int) := by
  refine (resultIdx?_ix1 scatter_S16384_S327680x1_S327680_n_0_0_1 (ix1 t) idx b).trans ?_
  have hw : scatter_S16384_S327680x1_S327680_n_0_0_1.window (ix1 t) 0 = 0 := by
    unfold ScatterDims.window
    rw [dif_neg (by decide)]
  have hs : scatter_S16384_S327680x1_S327680_n_0_0_1.start (ix1 t) idx 0 = (idx (ix2 t (0 : Fin 1))).toInt := by
    unfold ScatterDims.start
    rw [dif_pos (by decide)]
    refine congrArg (fun q => (idx q).toInt) (funext fun b => Fin.ext ?_)
    match b with
    | ⟨0, _⟩ => rfl
    | ⟨1, _⟩ => rfl
  rw [hw, hs]
  omega

/-- Row `n` of the gathered array, column `j`, for any number `n`. -/
def rowOf (x : IVec S327680 32) (hx : ∀ j, (x j).toNat < 100000) (e : Vec Ideal S100000x128 .f32) (j : Fin 128) (n : ℕ) : EReal :=
  e (ix2 ⟨(x (ix1 ⟨n % 327680, Nat.mod_lt _ (by decide)⟩)).toNat, hx _⟩ j)

theorem rowOf_val (x : IVec S327680 32) (hx : ∀ j, (x j).toNat < 100000) (e : Vec Ideal S100000x128 .f32) (j : Fin 128) (t : Fin 327680) :
    rowOf x hx e j t.val = e (ix2 ⟨(x (ix1 t)).toNat, hx _⟩ j) := by
  have ht : (⟨t.val % 327680, Nat.mod_lt _ (by decide)⟩ : Fin 327680) = t := Fin.ext (Nat.mod_eq_of_lt t.isLt)
  unfold rowOf
  simp only [ht]

theorem sums_apply (x : IVec S327680 32) (hx : ∀ j, (x j).toNat < 100000) (o : IVec S16384 32) (ho : ∀ j, o j = BitVec.ofNat 32 (j 0).val)
    (e : Vec Ideal S100000x128 .f32) (b : Fin 16384) (j : Fin 128) :
    sums x o e (ix2 b j) = ∑ t : Fin 327680, if min t.val 16383 = b.val then rowOf x hx e j t.val else 0 := by
  unfold sums
  refine (scatter_rows scatter_S16384x128_S327680x1_S327680x128_1_0_0_1 _ (segCol o) (take x e) (fun t => min t 16383) (fun t c b j => ?_) b j
    ((bc0 bcast_S_S16384x128 _ _).trans Ideal.ofBits_zero_f32)).trans (Finset.sum_congr rfl fun t _ => ?_)
  · rw [row_lands, segCol_toInt o ho, Int.natCast_inj]
  · rw [take_apply x hx, rowOf_val]

theorem counts_apply (o : IVec S16384 32) (ho : ∀ j, o j = BitVec.ofNat 32 (j 0).val) (b : Fin 16384) :
    counts o (ix1 b) = ∑ t : Fin 327680, if min t.val 16383 = b.val then (1 : EReal) else 0 := by
  unfold counts
  refine (scatter_entries scatter_S16384_S327680x1_S327680_n_0_0_1 _ (segCol o) _ (fun t => min t 16383) (fun t b => ?_) b
    ((bc0 bcast_S_S16384 _ _).trans Ideal.ofBits_zero_f32)).trans (Finset.sum_congr rfl fun t _ => ?_)
  · rw [one_lands, segCol_toInt o ho, Int.natCast_inj]
  · rw [bc0 bcast_S_S327680, show (constant (F := Ideal) S_ .f32 0x3F800000#32) ix0 = (1 : EReal) from Ideal.ofBits_one_f32]

/-- The mean of bag `b`: its one row, or, of the last bag, the sum of its rows times the inverse of their number. -/
theorem means_apply (x : IVec S327680 32) (hx : ∀ j, (x j).toNat < 100000) (o : IVec S16384 32) (ho : ∀ j, o j = BitVec.ofNat 32 (j 0).val)
    (e : Vec Ideal S100000x128 .f32) (b : Fin 16384) (j : Fin 128) :
    means x o e (ix2 b j) = if b.val = 16383
      then (rowOf x hx e j 16383 + ∑ i ∈ Finset.range 311296, rowOf x hx e j (16384 + i)) * ((311297⁻¹ : ℝ) : EReal)
      else rowOf x hx e j b.val := by
  have hd : broadcastInDim S16384x128 ![0, 1] bcast_S16384x1_S16384x128_0_1 (broadcastInDim S16384x1 ![0] bcast_S16384_S16384x1_0
      (maximumf (counts o) (broadcastInDim S16384 ![] bcast_S_S16384 (constant (F := Ideal) S_ .f32 0x3F800000#32)))) (ix2 b j)
      = max (∑ t : Fin 327680, if min t.val 16383 = b.val then (1 : EReal) else 0) 1 := by
    refine (bcRows bcast_S16384_S16384x1_0 bcast_S16384x1_S16384x128_0_1 _ b j).trans ?_
    rw [maximumf_at, bc0 bcast_S_S16384, show (constant (F := Ideal) S_ .f32 0x3F800000#32) ix0 = (1 : EReal) from Ideal.ofBits_one_f32, counts_apply o ho]
  unfold means
  rw [divf_at, hd, sums_apply x hx o ho, sum_group 16383 311296 327680 rfl _ b.val b.isLt, sum_group 16383 311296 327680 rfl (fun _ => 1) b.val b.isLt]
  by_cases h : b.val = 16383
  · rw [if_pos h, if_pos h, if_pos h, one_add_ones]
    have hn : (((311296 : ℕ) : ℝ) + 1 : ℝ) = 311297 := by norm_num
    rw [hn, max_eq_left (show (1 : EReal) ≤ ((311297 : ℝ) : EReal) from EReal.coe_le_coe_iff.2 (by norm_num : (1 : ℝ) ≤ 311297)), Ideal.div_coe (by norm_num), one_div]
  · rw [if_neg h, if_neg h, if_neg h, max_self, show (1 : EReal) = ((1 : ℝ) : EReal) from rfl, Ideal.div_coe one_ne_zero, one_div, inv_one]
    exact mul_one _

end Cert.Proof.Ref

end
-- ==== Proof.Ref.Layers.lean ====
/-
The reference's layers, one row at a time.
-/
module

public import proofs.«01_k».proof.Proof.Gen.ReferenceIdeal
public import proofs.«01_k».proof.Proof.Spec

@[expose] public section

noncomputable section

namespace Cert.Proof.Ref

open Cert.ReferenceIdeal Cert.ReferenceIdeal.Gen

open Idealize.ShloMosaic Cert.Proof.Spec

variable (x : FVec Ideal S16384x128 .f32) (W1 : FVec Ideal S32x128 .f32) (b1 : FVec Ideal S32 .f32) (W2 : FVec Ideal S16x32 .f32) (b2 : FVec Ideal S16 .f32)
  (W3 : FVec Ideal S128x16 .f32) (b3 : FVec Ideal S128 .f32) (W4 : FVec Ideal S64x128 .f32) (b4 : FVec Ideal S64 .f32) (W5 : FVec Ideal S32x64 .f32)
  (b5 : FVec Ideal S32 .f32) (W6 : FVec Ideal S100x32 .f32) (b6 : FVec Ideal S100 .f32)

/-- The last layer's sums. -/
def logits : FVec Ideal S16384x100 .f32 :=
  addf (Host.dotGeneral dot_S16384x32_S32x100_S16384x100_1_0_0_1_n_n none (maximumf (addf (Host.dotGeneral dot_S16384x64_S64x32_S16384x32_1_0_0_1_n_n none (maximumf (addf (Host.dotGeneral dot_S16384x128_S128x64_S16384x64_1_0_0_1_n_n none (maximumf (addf (Host.dotGeneral dot_S16384x16_S16x128_S16384x128_1_0_0_1_n_n none (maximumf (addf (Host.dotGeneral dot_S16384x32_S32x16_S16384x16_1_0_0_1_n_n none (maximumf (addf (Host.dotGeneral dot_S16384x128_S128x32_S16384x32_1_0_0_1_n_n none x
    (transpose S128x32 [1, 0] W1 transposes_S32x128_S128x32_1_0)) (broadcastInDim S16384x32 ![0, 1] bcast_S1x32_S16384x32_0_1 (broadcastInDim S1x32 ![1] bcast_S32_S1x32_1 b1))) (broadcastInDim S16384x32 ![] bcast_S_S16384x32 (constant S_ .f32 0x00000000#32)))
    (transpose S32x16 [1, 0] W2 transposes_S16x32_S32x16_1_0)) (broadcastInDim S16384x16 ![0, 1] bcast_S1x16_S16384x16_0_1 (broadcastInDim S1x16 ![1] bcast_S16_S1x16_1 b2))) (broadcastInDim S16384x16 ![] bcast_S_S16384x16 (constant S_ .f32 0x00000000#32)))
    (transpose S16x128 [1, 0] W3 transposes_S128x16_S16x128_1_0)) (broadcastInDim S16384x128 ![0, 1] bcast_S1x128_S16384x128_0_1 (broadcastInDim S1x128 ![1] bcast_S128_S1x128_1 b3))) (broadcastInDim S16384x128 ![] bcast_S_S16384x128 (constant S_ .f32 0x00000000#32)))
    (transpose S128x64 [1, 0] W4 transposes_S64x128_S128x64_1_0)) (broadcastInDim S16384x64 ![0, 1] bcast_S1x64_S16384x64_0_1 (broadcastInDim S1x64 ![1] bcast_S64_S1x64_1 b4))) (broadcastInDim S16384x64 ![] bcast_S_S16384x64 (constant S_ .f32 0x00000000#32)))
    (transpose S64x32 [1, 0] W5 transposes_S32x64_S64x32_1_0)) (broadcastInDim S16384x32 ![0, 1] bcast_S1x32_S16384x32_0_1 (broadcastInDim S1x32 ![1] bcast_S32_S1x32_1 b5))) (broadcastInDim S16384x32 ![] bcast_S_S16384x32 (constant S_ .f32 0x00000000#32)))
    (transpose S32x100 [1, 0] W6 transposes_S100x32_S32x100_1_0)) (broadcastInDim S16384x100 ![0, 1] bcast_S1x100_S16384x100_0_1 (broadcastInDim S1x100 ![1] bcast_S100_S1x100_1 b6))

/-- The softmax of every row. -/
def softmax (z : FVec Ideal S16384x100 .f32) : FVec Ideal S16384x100 .f32 :=
  Host.divf (Host.exp (subf z (broadcastInDim S16384x100 ![0, 1] bcast_S16384x1_S16384x100_0_1 (broadcastInDim S16384x1 ![0] bcast_S16384_S16384x1_0 (maximumf (broadcastInDim S16384 ![] bcast_S_S16384 (constant S_ .f32 0xFF800000#32)) (Host.reduce FloatOps.maximumf z (constant S_ .f32 0xFF800000#32) reducesTo_S16384x100_S16384_d1 h_S_)))))) (broadcastInDim S16384x100 ![0, 1] bcast_S16384x1_S16384x100_0_1 (broadcastInDim S16384x1 ![0] bcast_S16384_S16384x1_0 (Host.reduceAdd (Host.exp (subf z (broadcastInDim S16384x100 ![0, 1] bcast_S16384x1_S16384x100_0_1 (broadcastInDim S16384x1 ![0] bcast_S16384_S16384x1_0 (maximumf (broadcastInDim S16384 ![] bcast_S_S16384 (constant S_ .f32 0xFF800000#32)) (Host.reduce FloatOps.maximumf z (constant S_ .f32 0xFF800000#32) reducesTo_S16384x100_S16384_d1 h_S_)))))) (constant S_ .f32 0x00000000#32) reducesTo_S16384x100_S16384_d1 h_S_)))

set_option maxHeartbeats 4000000 in
/-- Row `b` of the last layer's sums. -/
theorem logits_apply (b : Fin 16384) (n : Fin 100) :
    logits x W1 b1 W2 b2 W3 b3 W4 b4 W5 b5 W6 b6 (ix2 b n)
      = dense W6 b6 (hidden W5 b5 (hidden W4 b4 (hidden W3 b3 (hidden W2 b2 (hidden W1 b1 (fun k => x (ix2 b k))))))) n := by
  unfold dense Spec.hidden dense
  pointwise [logits]

set_option maxHeartbeats 4000000 in
/-- Row `b` of the softmax. -/
theorem softmax_apply (z : FVec Ideal S16384x100 .f32) (b : Fin 16384) (n : Fin 100) : softmax z (ix2 b n) = soft (fun k => z (ix2 b k)) n := by
  have hb : Ideal.ofBits .f32 4286578688#32 = (⊥ : EReal) := by simp [Ideal.ofBits, Ideal.ieee]
  unfold soft top
  pointwise [softmax]
  have hm : ∀ a : EReal, max ⊥ a = a := fun _ => max_eq_right bot_le
  simp only [hb, hm]

end Cert.Proof.Ref

end
-- ==== Proof.Ref.Value.lean ====
/-
What the reference computes: row `b` of its result is the layers' row of the mean of bag `b`.
-/
module

public import proofs.«01_k».proof.Proof.Gen.ReferenceIdeal.Run
public import proofs.«01_k».proof.Proof.Ref.Bags
public import proofs.«01_k».proof.Proof.Ref.Layers

@[expose] public section

noncomputable section

namespace Cert.Proof.Ref

open Cert.ReferenceIdeal Cert.ReferenceIdeal.Gen Cert.ReferenceIdeal.Value

open Idealize.ShloMosaic Idealize.ShloMosaic.TcCoe Idealize.SL.Sem Cert.Proof.Spec

/-- Row `b` of the layers and the softmax. -/
theorem layers_apply (x : FVec Ideal S16384x128 .f32) (W1 : FVec Ideal S32x128 .f32) (b1 : FVec Ideal S32 .f32) (W2 : FVec Ideal S16x32 .f32)
    (b2 : FVec Ideal S16 .f32) (W3 : FVec Ideal S128x16 .f32) (b3 : FVec Ideal S128 .f32) (W4 : FVec Ideal S64x128 .f32) (b4 : FVec Ideal S64 .f32)
    (W5 : FVec Ideal S32x64 .f32) (b5 : FVec Ideal S32 .f32) (W6 : FVec Ideal S100x32 .f32) (b6 : FVec Ideal S100 .f32) (b : Fin 16384) (n : Fin 100) :
    softmax (logits x W1 b1 W2 b2 W3 b3 W4 b4 W5 b5 W6 b6) (ix2 b n)
      = net W1 b1 W2 b2 W3 b3 W4 b4 W5 b5 W6 b6 (fun k => x (ix2 b k)) n :=
  (softmax_apply _ b n).trans (congrArg (fun z => soft z n) (funext fun k => logits_apply x W1 b1 W2 b2 W3 b3 W4 b4 W5 b5 W6 b6 b k))

/-- The reference's result is the softmax of the last layer's sums at the bags' means. -/
theorem result_eq (m : (ℓ : Loc nD τ sig) → Buf (Elt Ideal) ℓ) (c : Dev nD) :
    res_main_v70 (F := Ideal) m c = softmax (logits
      (means (m ((c.tc : Thread nD τ).loc main_arg0)) (m ((c.tc : Thread nD τ).loc main_arg1)) (m ((c.tc : Thread nD τ).loc main_arg2)))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) (m ((c.tc : Thread nD τ).loc main_arg8))
      (m ((c.tc : Thread nD τ).loc main_arg9)) (m ((c.tc : Thread nD τ).loc main_arg10)) (m ((c.tc : Thread nD τ).loc main_arg11))
      (m ((c.tc : Thread nD τ).loc main_arg12)) (m ((c.tc : Thread nD τ).loc main_arg13)) (m ((c.tc : Thread nD τ).loc main_arg14))) := by
  unfold res_main_v70 softmax logits means sums counts segCol seg marks offCol take inTable tokCol
  rfl

/-- Row `b` of the reference's result. -/
theorem result_apply (m : (ℓ : Loc nD τ sig) → Buf (Elt Ideal) ℓ) (c : Dev nD) (b : Fin 16384) (n : Fin 100) :
    res_main_v70 (F := Ideal) m c (ix2 b n) = net
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) (m ((c.tc : Thread nD τ).loc main_arg8))
      (m ((c.tc : Thread nD τ).loc main_arg9)) (m ((c.tc : Thread nD τ).loc main_arg10)) (m ((c.tc : Thread nD τ).loc main_arg11))
      (m ((c.tc : Thread nD τ).loc main_arg12)) (m ((c.tc : Thread nD τ).loc main_arg13)) (m ((c.tc : Thread nD τ).loc main_arg14))
      (fun k => means (m ((c.tc : Thread nD τ).loc main_arg0)) (m ((c.tc : Thread nD τ).loc main_arg1)) (m ((c.tc : Thread nD τ).loc main_arg2))
        (ix2 b k)) n := by
  rw [result_eq]
  exact layers_apply _ _ _ _ _ _ _ _ _ _ _ _ _ b n

end Cert.Proof.Ref

end
-- ==== Proof.Equation.lean ====
/-
The equation: the idealized kernel's result is the idealized reference's, entry by entry, as numbers.
-/
module

public import proofs.«01_k».proof.Proof.Pre
public import proofs.«01_k».proof.Proof.IdealRun.Readout
public import proofs.«01_k».proof.Proof.Ref.Bags
public import proofs.«01_k».proof.Proof.Ref.Value

@[expose] public section

noncomputable section

namespace Cert.Proof.Equation

open Idealize.ShloMosaic Idealize.SL.Sem
open Idealize.ShloMosaic.TcCoe
open Cert.Proof.Spec (net)
open Cert.KernelIdeal (S327680 S16384 S100000x128 S16384x100)

/-- A token's row, as the two programs name it. -/
theorem row_eq (x : S327680.Idx → BitVec 32) (hx : ∀ j, (x j).toNat < 100000) (e : S100000x128.Idx → EReal) (j : Fin 128) (n : ℕ) :
    Ref.rowOf x hx e j n = e (IdealRun.embIx (IdealRun.tokN x n) j) := by
  have hi : (ValueIdx.ix1 (⟨n % 327680, Nat.mod_lt _ (by decide)⟩ : Fin 327680)) = IdealRun.tokIx n :=
    funext fun a => match a with | ⟨0, _⟩ => rfl
  unfold Ref.rowOf
  refine congrArg e (funext fun a => Fin.ext ?_)
  match a with
  | ⟨0, _⟩ => exact (congrArg (fun i => (x i).toNat) hi).trans (Nat.mod_eq_of_lt (hx _)).symm
  | ⟨1, _⟩ => rfl

/-- The reference's mean of a bag is the row the kernel feeds its first layer. -/
theorem mean_eq (x : S327680.Idx → BitVec 32) (hx : ∀ j, (x j).toNat < 100000) (o : S16384.Idx → BitVec 32) (ho : ∀ j, o j = BitVec.ofNat 32 (j 0).val)
    (e : S100000x128.Idx → EReal) (b : Fin 16384) (k : Fin 128) :
    Ref.means x o e (ix2 b k) = if b.val = 16383
      then ((∑ i ∈ Finset.range 311296, e (IdealRun.embIx (IdealRun.tokN x (16384 + i)) k)) + e (IdealRun.embIx (IdealRun.tokN x 16383) k)) * ((311297⁻¹ : ℝ) : EReal)
      else e (IdealRun.embIx (IdealRun.tokN x b.val) k) := by
  rw [ix2_eq_valueIdx, Ref.means_apply x hx o ho e b k, row_eq, row_eq, add_comm]
  simp only [row_eq]

/-- From equal arguments in range the two programs' results are equal. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (hpre : Cert.Pre_KernelIdeal m)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (h12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (h13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (h14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) :
    Cert.ReferenceIdeal.Value.res_main_v70 (F := Ideal) m' c = IdealRun.valE m c (Proc.devRef .tc Cert.KernelIdeal.main_v10) := by
  funext x
  obtain ⟨b, n, rfl⟩ : ∃ (b : Fin 16384) (n : Fin 100), x = ix2 b n := ⟨x 0, x 1, funext fun a => match a with | ⟨0, _⟩ => rfl | ⟨1, _⟩ => rfl⟩
  refine (Ref.result_apply m' c b n).trans (Eq.trans ?_ (IdealRun.result_apply m c (Pre.ideal_text m hpre) b n).symm)
  rw [h0, h1, h2, h3, h4, h5, h6, h7, h8, h9, h10, h11, h12, h13, h14]
  refine congrArg (fun row => net (IdealRun.at₀ m c Cert.KernelIdeal.main_arg3) (IdealRun.at₀ m c Cert.KernelIdeal.main_arg4)
    (IdealRun.at₀ m c Cert.KernelIdeal.main_arg5) (IdealRun.at₀ m c Cert.KernelIdeal.main_arg6) (IdealRun.at₀ m c Cert.KernelIdeal.main_arg7)
    (IdealRun.at₀ m c Cert.KernelIdeal.main_arg8) (IdealRun.at₀ m c Cert.KernelIdeal.main_arg9) (IdealRun.at₀ m c Cert.KernelIdeal.main_arg10)
    (IdealRun.at₀ m c Cert.KernelIdeal.main_arg11) (IdealRun.at₀ m c Cert.KernelIdeal.main_arg12) (IdealRun.at₀ m c Cert.KernelIdeal.main_arg13)
    (IdealRun.at₀ m c Cert.KernelIdeal.main_arg14) row n) ?_
  funext k
  exact mean_eq _ (Pre.ideal_text m hpre c) _ (Pre.ideal_offsets m hpre c) _ b k

/-- The idealized kernel and the idealized reference run, and end with equal results and their arguments unchanged. -/
theorem algebraic : Cert.algebraic_KernelIdeal_ReferenceIdeal := fun m g m' g' hpre hargs =>
  ⟨fun c => IdealRun.valE m c (Proc.devRef .tc Cert.KernelIdeal.main_v10),
    (θ_run Cert.KernelIdeal.defs _ _).mono (fun _ h c => ⟨h.1 c _ (Pipeline.devRef_mem_ucRefs rfl), IdealRun.QC_args m h c⟩)
      (IdealRun.run_main (F := Ideal) m g (Pre.ideal_text m hpre)),
    (θ_run Cert.ReferenceIdeal.defs _ _).mono (fun _ h c => ⟨(h c).1.trans (by
        obtain ⟨h0, h1, h2, h3, h4, h5, h6, h7, h8, h9, h10, h11, h12, h13, h14⟩ := hargs c
        exact result_eq m m' hpre c h0 h1 h2 h3 h4 h5 h6 h7 h8 h9 h10 h11 h12 h13 h14), (h c).2⟩)
      (Cert.ReferenceIdeal.Value.run (F := Ideal) m' g')⟩

end Cert.Proof.Equation

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_in_range
public import proofs.«01_k».proof.Proof.Frames
public import proofs.«01_k».proof.Proof.Equation

@[expose] public section

noncomputable section

namespace Cert.Proof

/-- Everything claimed in Defs.lean. -/
theorem claim : Cert.Claim := ⟨Cert.Kernel.Gen.facts, Cert.KernelIdeal.Gen.facts, Cert.ReferenceIdeal.Gen.facts, Cert.Pre_in_range.Gen.facts,
  Frames.kernel, Frames.ideal, Frames.reference, Frames.reference_in_range, Frames.preserves, Equation.algebraic⟩

end Cert.Proof

end
